-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x128x6144 : Shape := ⟨3, ![12, 128, 6144]⟩
abbrev S12x4x256x16x96 : Shape := ⟨5, ![12, 4, 256, 16, 96]⟩
abbrev S12x4x16 : Shape := ⟨3, ![12, 4, 16]⟩
abbrev S12x128 : Shape := ⟨2, ![12, 128]⟩
abbrev S12x64x128 : Shape := ⟨3, ![12, 64, 128]⟩
abbrev S12x4x16x96x256 : Shape := ⟨5, ![12, 4, 16, 96, 256]⟩
abbrev S12x16x4x128 : Shape := ⟨4, ![12, 16, 4, 128]⟩
abbrev S12x16x128x4 : Shape := ⟨4, ![12, 16, 128, 4]⟩
abbrev S192x128x4 : Shape := ⟨3, ![192, 128, 4]⟩
abbrev S_ : Shape := ⟨0, ![]⟩
abbrev S12x128x1 : Shape := ⟨3, ![12, 128, 1]⟩
abbrev S1 : Shape := ⟨1, ![1]⟩
abbrev S1x1x1 : Shape := ⟨3, ![1, 1, 1]⟩
abbrev S12x128x16 : Shape := ⟨3, ![12, 128, 16]⟩
abbrev S12x1x128x1 : Shape := ⟨4, ![12, 1, 128, 1]⟩
abbrev S12x16x128x1 : Shape := ⟨4, ![12, 16, 128, 1]⟩
abbrev S12x16x128 : Shape := ⟨3, ![12, 16, 128]⟩
abbrev S12x16x128x8 : Shape := ⟨4, ![12, 16, 128, 8]⟩
abbrev S192x128x8 : Shape := ⟨3, ![192, 128, 8]⟩
abbrev S1x128x384 : Shape := ⟨3, ![1, 128, 384]⟩
abbrev S1x4x1x96x256 : Shape := ⟨5, ![1, 4, 1, 96, 256]⟩
abbrev S1x128x4 : Shape := ⟨3, ![1, 128, 4]⟩
abbrev S1x128x8 : Shape := ⟨3, ![1, 128, 8]⟩
abbrev S128x8 : Shape := ⟨2, ![128, 8]⟩
abbrev S512x8 : Shape := ⟨2, ![512, 8]⟩
abbrev S512x1 : Shape := ⟨2, ![512, 1]⟩
abbrev S1x128x1 : Shape := ⟨3, ![1, 128, 1]⟩
abbrev S128x1 : Shape := ⟨2, ![128, 1]⟩
abbrev S128x384 : Shape := ⟨2, ![128, 384]⟩
abbrev S128x96 : Shape := ⟨2, ![128, 96]⟩
abbrev S512x96 : Shape := ⟨2, ![512, 96]⟩
abbrev S512 : Shape := ⟨1, ![512]⟩
abbrev S1x1x1x96x256 : Shape := ⟨5, ![1, 1, 1, 96, 256]⟩
abbrev S96x256 : Shape := ⟨2, ![96, 256]⟩
abbrev S512x256 : Shape := ⟨2, ![512, 256]⟩
abbrev S1x128x96 : Shape := ⟨3, ![1, 128, 96]⟩

abbrev nBuf : Space → Nat
  | .hbm => 86
  | .vmem => 20
  | .smem => 0
  | _ => 0

abbrev bufTy : (tb : Table) → Fin (tcTables nBuf tb) → BufTy
  | .hbm, ⟨0, _⟩ => ⟨S12x128x6144, .bf16⟩
  | .hbm, ⟨1, _⟩ => ⟨S12x4x256x16x96, .fp8e4m3⟩
  | .hbm, ⟨2, _⟩ => ⟨S12x4x16, .f32⟩
  | .hbm, ⟨3, _⟩ => ⟨S12x4x256x16x96, .fp8e4m3⟩
  | .hbm, ⟨4, _⟩ => ⟨S12x4x16, .f32⟩
  | .hbm, ⟨5, _⟩ => ⟨S12x128x6144, .fp8e5m2⟩
  | .hbm, ⟨6, _⟩ => ⟨S12x128, .f32⟩
  | .hbm, ⟨7, _⟩ => ⟨S12x128x6144, .bf16⟩
  | .hbm, ⟨8, _⟩ => ⟨S12x64x128, .f32⟩
  | .hbm, ⟨9, _⟩ => ⟨S12x128, .i32⟩
  | .hbm, ⟨10, _⟩ => ⟨S12x4x16x96x256, .fp8e4m3⟩
  | .hbm, ⟨11, _⟩ => ⟨S12x4x16x96x256, .fp8e4m3⟩
  | .hbm, ⟨12, _⟩ => ⟨S12x16x4x128, .f32⟩
  | .hbm, ⟨13, _⟩ => ⟨S12x16x128x4, .f32⟩
  | .hbm, ⟨14, _⟩ => ⟨S192x128x4, .f32⟩
  | .hbm, ⟨15, _⟩ => ⟨S_, .i32⟩
  | .hbm, ⟨16, _⟩ => ⟨S12x128, .i32⟩
  | .hbm, ⟨17, _⟩ => ⟨S12x128, .i1⟩
  | .hbm, ⟨18, _⟩ => ⟨S_, .i32⟩
  | .hbm, ⟨19, _⟩ => ⟨S_, .i32⟩
  | .hbm, ⟨20, _⟩ => ⟨S12x128, .i32⟩
  | .hbm, ⟨21, _⟩ => ⟨S12x128, .i32⟩
  | .hbm, ⟨22, _⟩ => ⟨S12x128x1, .i32⟩
  | .hbm, ⟨23, _⟩ => ⟨S_, .i32⟩
  | .hbm, ⟨24, _⟩ => ⟨S12x128x1, .i32⟩
  | .hbm, ⟨25, _⟩ => ⟨S12x128x1, .i1⟩
  | .hbm, ⟨26, _⟩ => ⟨S_, .i32⟩
  | .hbm, ⟨27, _⟩ => ⟨S12x128x1, .i32⟩
  | .hbm, ⟨28, _⟩ => ⟨S12x128x1, .i32⟩
  | .hbm, ⟨29, _⟩ => ⟨S12x128x1, .i32⟩
  | .hbm, ⟨30, _⟩ => ⟨S1, .i32⟩
  | .hbm, ⟨31, _⟩ => ⟨S_, .i32⟩
  | .hbm, ⟨32, _⟩ => ⟨S12x128x1, .i32⟩
  | .hbm, ⟨33, _⟩ => ⟨S12x128x1, .i1⟩
  | .hbm, ⟨34, _⟩ => ⟨S1x1x1, .i32⟩
  | .hbm, ⟨35, _⟩ => ⟨S12x128x1, .i32⟩
  | .hbm, ⟨36, _⟩ => ⟨S12x128x1, .i1⟩
  | .hbm, ⟨37, _⟩ => ⟨S12x128x1, .i1⟩
  | .hbm, ⟨38, _⟩ => ⟨S_, .i1⟩
  | .hbm, ⟨39, _⟩ => ⟨S12x128, .i1⟩
  | .hbm, ⟨40, _⟩ => ⟨S12x128x16, .f32⟩
  | .hbm, ⟨41, _⟩ => ⟨S12x128x16, .i1⟩
  | .hbm, ⟨42, _⟩ => ⟨S_, .f32⟩
  | .hbm, ⟨43, _⟩ => ⟨S12x128x16, .f32⟩
  | .hbm, ⟨44, _⟩ => ⟨S12x128x16, .f32⟩
  | .hbm, ⟨45, _⟩ => ⟨S12x128x1, .i32⟩
  | .hbm, ⟨46, _⟩ => ⟨S_, .i32⟩
  | .hbm, ⟨47, _⟩ => ⟨S12x128x1, .i32⟩
  | .hbm, ⟨48, _⟩ => ⟨S12x128x1, .i1⟩
  | .hbm, ⟨49, _⟩ => ⟨S_, .i32⟩
  | .hbm, ⟨50, _⟩ => ⟨S12x128x1, .i32⟩
  | .hbm, ⟨51, _⟩ => ⟨S12x128x1, .i32⟩
  | .hbm, ⟨52, _⟩ => ⟨S12x128x1, .i32⟩
  | .hbm, ⟨53, _⟩ => ⟨S1, .i32⟩
  | .hbm, ⟨54, _⟩ => ⟨S_, .i32⟩
  | .hbm, ⟨55, _⟩ => ⟨S12x128x1, .i32⟩
  | .hbm, ⟨56, _⟩ => ⟨S12x128x1, .i1⟩
  | .hbm, ⟨57, _⟩ => ⟨S1x1x1, .i32⟩
  | .hbm, ⟨58, _⟩ => ⟨S12x128x1, .i32⟩
  | .hbm, ⟨59, _⟩ => ⟨S12x128x1, .i1⟩
  | .hbm, ⟨60, _⟩ => ⟨S12x128x1, .i1⟩
  | .hbm, ⟨61, _⟩ => ⟨S_, .i1⟩
  | .hbm, ⟨62, _⟩ => ⟨S12x128, .i1⟩
  | .hbm, ⟨63, _⟩ => ⟨S12x128x16, .f32⟩
  | .hbm, ⟨64, _⟩ => ⟨S12x128x16, .i1⟩
  | .hbm, ⟨65, _⟩ => ⟨S_, .f32⟩
  | .hbm, ⟨66, _⟩ => ⟨S12x128x16, .f32⟩
  | .hbm, ⟨67, _⟩ => ⟨S12x128x16, .f32⟩
  | .hbm, ⟨68, _⟩ => ⟨S_, .f32⟩
  | .hbm, ⟨69, _⟩ => ⟨S12x16x128x4, .f32⟩
  | .hbm, ⟨70, _⟩ => ⟨S12x128, .f32⟩
  | .hbm, ⟨71, _⟩ => ⟨S12x1x128x1, .f32⟩
  | .hbm, ⟨72, _⟩ => ⟨S12x16x128x1, .f32⟩
  | .hbm, ⟨73, _⟩ => ⟨S12x1x128x1, .f32⟩
  | .hbm, ⟨74, _⟩ => ⟨S12x16x128x1, .f32⟩
  | .hbm, ⟨75, _⟩ => ⟨S12x16x128, .f32⟩
  | .hbm, ⟨76, _⟩ => ⟨S12x16x128x1, .f32⟩
  | .hbm, ⟨77, _⟩ => ⟨S12x16x128, .f32⟩
  | .hbm, ⟨78, _⟩ => ⟨S12x16x128x1, .f32⟩
  | .hbm, ⟨79, _⟩ => ⟨S12x16x128x8, .f32⟩
  | .hbm, ⟨80, _⟩ => ⟨S192x128x8, .f32⟩
  | .hbm, ⟨81, _⟩ => ⟨S12x128x6144, .bf16⟩
  | .hbm, ⟨82, _⟩ => ⟨S12x4x16x96x256, .bf16⟩
  | .hbm, ⟨83, _⟩ => ⟨S12x4x16x96x256, .bf16⟩
  | .hbm, ⟨84, _⟩ => ⟨S12x4x256x16x96, .bf16⟩
  | .hbm, ⟨85, _⟩ => ⟨S12x4x256x16x96, .bf16⟩
  | .local _ .vmem, ⟨0, _⟩ => ⟨S1x128x384, .bf16⟩
  | .local _ .vmem, ⟨1, _⟩ => ⟨S1x128x384, .bf16⟩
  | .local _ .vmem, ⟨2, _⟩ => ⟨S1x4x1x96x256, .fp8e4m3⟩
  | .local _ .vmem, ⟨3, _⟩ => ⟨S1x4x1x96x256, .fp8e4m3⟩
  | .local _ .vmem, ⟨4, _⟩ => ⟨S1x4x1x96x256, .fp8e4m3⟩
  | .local _ .vmem, ⟨5, _⟩ => ⟨S1x4x1x96x256, .fp8e4m3⟩
  | .local _ .vmem, ⟨6, _⟩ => ⟨S1x128x384, .fp8e5m2⟩
  | .local _ .vmem, ⟨7, _⟩ => ⟨S1x128x384, .fp8e5m2⟩
  | .local _ .vmem, ⟨8, _⟩ => ⟨S1x128x384, .bf16⟩
  | .local _ .vmem, ⟨9, _⟩ => ⟨S1x128x384, .bf16⟩
  | .local _ .vmem, ⟨10, _⟩ => ⟨S1x128x4, .f32⟩
  | .local _ .vmem, ⟨11, _⟩ => ⟨S1x128x4, .f32⟩
  | .local _ .vmem, ⟨12, _⟩ => ⟨S1x128x8, .f32⟩
  | .local _ .vmem, ⟨13, _⟩ => ⟨S1x128x8, .f32⟩
  | .local _ .vmem, ⟨14, _⟩ => ⟨S1x128x384, .bf16⟩
  | .local _ .vmem, ⟨15, _⟩ => ⟨S1x128x384, .bf16⟩
  | .local _ .vmem, ⟨16, _⟩ => ⟨S1x4x1x96x256, .bf16⟩
  | .local _ .vmem, ⟨17, _⟩ => ⟨S1x4x1x96x256, .bf16⟩
  | .local _ .vmem, ⟨18, _⟩ => ⟨S1x4x1x96x256, .bf16⟩
  | .local _ .vmem, ⟨19, _⟩ => ⟨S1x4x1x96x256, .bf16⟩
  | _, _ => ⟨S12x128x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_v8 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_c_2 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_c_3 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v9 : Ref sig .tc := ⟨.hbm, 44, rfl⟩
abbrev main_v10 : Ref sig .tc := ⟨.hbm, 45, rfl⟩
abbrev main_call2_c : Ref sig .tc := ⟨.hbm, 46, rfl⟩
abbrev main_call2_v0 : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_c_1 : Ref sig .tc := ⟨.hbm, 53, rfl⟩
abbrev main_call2_c_2 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_c_3 : Ref sig .tc := ⟨.hbm, 61, rfl⟩
abbrev main_call2_v11 : Ref sig .tc := ⟨.hbm, 62, rfl⟩
abbrev main_call2_v12 : Ref sig .tc := ⟨.hbm, 63, rfl⟩
abbrev main_call2_v13 : Ref sig .tc := ⟨.hbm, 64, rfl⟩
abbrev main_call2_cst : Ref sig .tc := ⟨.hbm, 65, rfl⟩
abbrev main_call2_v14 : Ref sig .tc := ⟨.hbm, 66, rfl⟩
abbrev main_v11 : Ref sig .tc := ⟨.hbm, 67, rfl⟩
abbrev main_cst : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24_0 : Ref sig .tc := ⟨.hbm, 81, rfl⟩
abbrev main_v24_1 : Ref sig .tc := ⟨.hbm, 82, rfl⟩
abbrev main_v24_2 : Ref sig .tc := ⟨.hbm, 83, rfl⟩
abbrev main_v25 : Ref sig .tc := ⟨.hbm, 84, rfl⟩
abbrev main_v26 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![12, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x128x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1x96x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x1x96x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x384 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x1x96x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x1x96x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S12x128x6144 : Shape := ⟨3, ![12, 128, 6144]⟩
abbrev S12x4x256x16x96 : Shape := ⟨5, ![12, 4, 256, 16, 96]⟩
abbrev S12x4x16 : Shape := ⟨3, ![12, 4, 16]⟩
abbrev S12x128 : Shape := ⟨2, ![12, 128]⟩
abbrev S12x64x128 : Shape := ⟨3, ![12, 64, 128]⟩
abbrev S12x128x16x4x96 : Shape := ⟨5, ![12, 128, 16, 4, 96]⟩
abbrev S12x1x128 : Shape := ⟨3, ![12, 1, 128]⟩
abbrev S4 : Shape := ⟨1, ![4]⟩
abbrev S1x4x1 : Shape := ⟨3, ![1, 4, 1]⟩
abbrev S12x4x128 : Shape := ⟨3, ![12, 4, 128]⟩
abbrev S12x4x128x1x1x1 : Shape := ⟨6, ![12, 4, 128, 1, 1, 1]⟩
abbrev S12x1x128x16x4x96 : Shape := ⟨6, ![12, 1, 128, 16, 4, 96]⟩
abbrev S_ : Shape := ⟨0, ![]⟩
abbrev S12x4x128x16x4x96 : Shape := ⟨6, ![12, 4, 128, 16, 4, 96]⟩
abbrev S12x128x1 : Shape := ⟨3, ![12, 128, 1]⟩
abbrev S1 : Shape := ⟨1, ![1]⟩
abbrev S1x1x1 : Shape := ⟨3, ![1, 1, 1]⟩
abbrev S12x128x16 : Shape := ⟨3, ![12, 128, 16]⟩
abbrev S12x16x128 : Shape := ⟨3, ![12, 16, 128]⟩
abbrev S12x16x1x128x1 : Shape := ⟨5, ![12, 16, 1, 128, 1]⟩
abbrev S12x1x1x128x1 : Shape := ⟨5, ![12, 1, 1, 128, 1]⟩
abbrev S12x16x256x128x4 : Shape := ⟨5, ![12, 16, 256, 128, 4]⟩
abbrev S12x16x4x128x256 : Shape := ⟨5, ![12, 16, 4, 128, 256]⟩
abbrev S12x16x4x128 : Shape := ⟨4, ![12, 16, 4, 128]⟩
abbrev S12x16x4x128x1 : Shape := ⟨5, ![12, 16, 4, 128, 1]⟩
abbrev S12x128x16x4 : Shape := ⟨4, ![12, 128, 16, 4]⟩
abbrev S12x16x4x96x256 : Shape := ⟨5, ![12, 16, 4, 96, 256]⟩
abbrev S12x128x4 : Shape := ⟨3, ![12, 128, 4]⟩
abbrev S12x1x1x128x4x1 : Shape := ⟨6, ![12, 1, 1, 128, 4, 1]⟩
abbrev S12x16x4x128x1x256 : Shape := ⟨6, ![12, 16, 4, 128, 1, 256]⟩
abbrev S12x16x4x128x4x256 : Shape := ⟨6, ![12, 16, 4, 128, 4, 256]⟩
abbrev S12x16x96x4x128 : Shape := ⟨5, ![12, 16, 96, 4, 128]⟩

abbrev nBuf : Space → Nat
  | .hbm => 164
  | .vmem => 7
  | .smem => 0
  | _ => 0

abbrev hbmTy0_0 (i : Nat) : BufTy := match i % 128 with
  | 0 => ⟨S12x128x6144, .bf16⟩
  | 1 => ⟨S12x4x256x16x96, .fp8e4m3⟩
  | 2 => ⟨S12x4x16, .f32⟩
  | 3 => ⟨S12x4x256x16x96, .fp8e4m3⟩
  | 4 => ⟨S12x4x16, .f32⟩
  | 5 => ⟨S12x128x6144, .fp8e5m2⟩
  | 6 => ⟨S12x128, .f32⟩
  | 7 => ⟨S12x128x6144, .bf16⟩
  | 8 => ⟨S12x64x128, .f32⟩
  | 9 => ⟨S12x128, .i32⟩
  | 10 => ⟨S12x4x256x16x96, .bf16⟩
  | 11 => ⟨S12x4x256x16x96, .bf16⟩
  | 12 => ⟨S12x128x6144, .bf16⟩
  | 13 => ⟨S12x128x6144, .f32⟩
  | 14 => ⟨S12x128x16x4x96, .bf16⟩
  | 15 => ⟨S12x128x16x4x96, .bf16⟩
  | 16 => ⟨S12x1x128, .i32⟩
  | 17 => ⟨S4, .i32⟩
  | 18 => ⟨S1x4x1, .i32⟩
  | 19 => ⟨S12x4x128, .i32⟩
  | 20 => ⟨S12x4x128, .i32⟩
  | 21 => ⟨S12x4x128, .i1⟩
  | 22 => ⟨S12x4x128x1x1x1, .i1⟩
  | 23 => ⟨S12x1x128x16x4x96, .bf16⟩
  | 24 => ⟨S_, .bf16⟩
  | 25 => ⟨S12x4x128x16x4x96, .i1⟩
  | 26 => ⟨S12x4x128x16x4x96, .bf16⟩
  | 27 => ⟨S12x4x128x16x4x96, .bf16⟩
  | 28 => ⟨S12x4x128x16x4x96, .bf16⟩
  | 29 => ⟨S12x1x128x16x4x96, .bf16⟩
  | 30 => ⟨S_, .bf16⟩
  | 31 => ⟨S12x4x128x16x4x96, .i1⟩
  | 32 => ⟨S12x4x128x16x4x96, .bf16⟩
  | 33 => ⟨S12x4x128x16x4x96, .bf16⟩
  | 34 => ⟨S12x4x128x16x4x96, .bf16⟩
  | 35 => ⟨S_, .i32⟩
  | 36 => ⟨S12x128, .i32⟩
  | 37 => ⟨S12x128, .i1⟩
  | 38 => ⟨S_, .i32⟩
  | 39 => ⟨S_, .i32⟩
  | 40 => ⟨S12x128, .i32⟩
  | 41 => ⟨S12x128, .i32⟩
  | 42 => ⟨S12x128x1, .i32⟩
  | 43 => ⟨S_, .i32⟩
  | 44 => ⟨S12x128x1, .i32⟩
  | 45 => ⟨S12x128x1, .i1⟩
  | 46 => ⟨S_, .i32⟩
  | 47 => ⟨S12x128x1, .i32⟩
  | 48 => ⟨S12x128x1, .i32⟩
  | 49 => ⟨S12x128x1, .i32⟩
  | 50 => ⟨S1, .i32⟩
  | 51 => ⟨S_, .i32⟩
  | 52 => ⟨S12x128x1, .i32⟩
  | 53 => ⟨S12x128x1, .i1⟩
  | 54 => ⟨S1x1x1, .i32⟩
  | 55 => ⟨S12x128x1, .i32⟩
  | 56 => ⟨S12x128x1, .i1⟩
  | 57 => ⟨S12x128x1, .i1⟩
  | 58 => ⟨S_, .i1⟩
  | 59 => ⟨S12x128, .i1⟩
  | 60 => ⟨S12x128x16, .f32⟩
  | 61 => ⟨S12x128x16, .i1⟩
  | 62 => ⟨S_, .f32⟩
  | 63 => ⟨S12x128x16, .f32⟩
  | 64 => ⟨S12x128x16, .f32⟩
  | 65 => ⟨S12x16x128, .f32⟩
  | 66 => ⟨S12x16x1x128x1, .f32⟩
  | 67 => ⟨S12x128x1, .i32⟩
  | 68 => ⟨S_, .i32⟩
  | 69 => ⟨S12x128x1, .i32⟩
  | 70 => ⟨S12x128x1, .i1⟩
  | 71 => ⟨S_, .i32⟩
  | 72 => ⟨S12x128x1, .i32⟩
  | 73 => ⟨S12x128x1, .i32⟩
  | 74 => ⟨S12x128x1, .i32⟩
  | 75 => ⟨S1, .i32⟩
  | 76 => ⟨S_, .i32⟩
  | 77 => ⟨S12x128x1, .i32⟩
  | 78 => ⟨S12x128x1, .i1⟩
  | 79 => ⟨S1x1x1, .i32⟩
  | 80 => ⟨S12x128x1, .i32⟩
  | 81 => ⟨S12x128x1, .i1⟩
  | 82 => ⟨S12x128x1, .i1⟩
  | 83 => ⟨S_, .i1⟩
  | 84 => ⟨S12x128, .i1⟩
  | 85 => ⟨S12x128x16, .f32⟩
  | 86 => ⟨S12x128x16, .i1⟩
  | 87 => ⟨S_, .f32⟩
  | 88 => ⟨S12x128x16, .f32⟩
  | 89 => ⟨S12x128x16, .f32⟩
  | 90 => ⟨S12x16x128, .f32⟩
  | 91 => ⟨S12x16x1x128x1, .f32⟩
  | 92 => ⟨S12x1x1x128x1, .f32⟩
  | 93 => ⟨S_, .i32⟩
  | 94 => ⟨S12x128, .i32⟩
  | 95 => ⟨S12x128, .i1⟩
  | 96 => ⟨S12x1x1x128x1, .i1⟩
  | 97 => ⟨S12x16x256x128x4, .f32⟩
  | 98 => ⟨S12x16x4x128x256, .f32⟩
  | 99 => ⟨S12x16x4x128x256, .f32⟩
  | 100 => ⟨S12x16x4x128x256, .f32⟩
  | 101 => ⟨S_, .f32⟩
  | 102 => ⟨S12x16x4x128x256, .f32⟩
  | 103 => ⟨S12x16x4x128x256, .f32⟩
  | 104 => ⟨S12x16x4x128, .f32⟩
  | 105 => ⟨S12x16x4x128x1, .f32⟩
  | 106 => ⟨S12x16x4x128x256, .f32⟩
  | 107 => ⟨S12x16x4x128x256, .f32⟩
  | 108 => ⟨S12x16x4x128x256, .f32⟩
  | 109 => ⟨S_, .f32⟩
  | 110 => ⟨S_, .f32⟩
  | 111 => ⟨S12x16x4x128x256, .i1⟩
  | 112 => ⟨S12x16x4x128x256, .f32⟩
  | 113 => ⟨S12x16x4x128x256, .f32⟩
  | 114 => ⟨S12x128x1, .f32⟩
  | 115 => ⟨S12x128x6144, .f32⟩
  | 116 => ⟨S12x128x6144, .f32⟩
  | 117 => ⟨S12x128x6144, .f32⟩
  | 118 => ⟨S12x128x6144, .f32⟩
  | 119 => ⟨S12x128x16x4x96, .f32⟩
  | 120 => ⟨S_, .f32⟩
  | 121 => ⟨S12x128x16x4, .f32⟩
  | 122 => ⟨S12x16x4x128, .f32⟩
  | 123 => ⟨S12x16x256x128x4, .f32⟩
  | 124 => ⟨S12x16x4x128x256, .f32⟩
  | 125 => ⟨S12x16x4x128x256, .f32⟩
  | 126 => ⟨S12x16x4x128x256, .f32⟩
  | 127 => ⟨S12x16x4x128x256, .f32⟩
  | _ => ⟨S12x128x6144, .bf16⟩

abbrev hbmTy0_1 (i : Nat) : BufTy := match i % 128 with
  | 0 => ⟨S12x16x4x128x256, .f32⟩
  | 1 => ⟨S12x16x4x128x1, .f32⟩
  | 2 => ⟨S12x16x4x128x256, .f32⟩
  | 3 => ⟨S12x16x4x128x256, .f32⟩
  | 4 => ⟨S12x16x4x128x256, .f32⟩
  | 5 => ⟨S12x16x4x128x256, .f32⟩
  | 6 => ⟨S12x16x4x128x256, .f32⟩
  | 7 => ⟨S12x16x4x128x256, .bf16⟩
  | 8 => ⟨S12x16x4x96x256, .f32⟩
  | 9 => ⟨S12x4x256x16x96, .f32⟩
  | 10 => ⟨S12x4x256x16x96, .bf16⟩
  | 11 => ⟨S12x16x4x128x256, .bf16⟩
  | 12 => ⟨S12x16x4x96x256, .f32⟩
  | 13 => ⟨S12x4x256x16x96, .f32⟩
  | 14 => ⟨S_, .f32⟩
  | 15 => ⟨S12x4x256x16x96, .f32⟩
  | 16 => ⟨S12x4x256x16x96, .f32⟩
  | 17 => ⟨S12x4x256x16x96, .bf16⟩
  | 18 => ⟨S12x16x4x128x256, .f32⟩
  | 19 => ⟨S12x16x4x128x256, .f32⟩
  | 20 => ⟨S12x16x4x128x256, .bf16⟩
  | 21 => ⟨S12x128x4, .i1⟩
  | 22 => ⟨S12x1x1x128x4x1, .i1⟩
  | 23 => ⟨S12x16x4x128x1x256, .bf16⟩
  | 24 => ⟨S_, .bf16⟩
  | 25 => ⟨S12x16x4x128x4x256, .i1⟩
  | 26 => ⟨S12x16x4x128x4x256, .bf16⟩
  | 27 => ⟨S12x16x4x128x4x256, .bf16⟩
  | 28 => ⟨S12x16x4x128x4x256, .bf16⟩
  | 29 => ⟨S12x16x96x4x128, .f32⟩
  | 30 => ⟨S12x128x16x4x96, .f32⟩
  | 31 => ⟨S_, .f32⟩
  | 32 => ⟨S12x128x16x4x96, .f32⟩
  | 33 => ⟨S12x128x16x4x96, .f32⟩
  | 34 => ⟨S12x128x16x4x96, .bf16⟩
  | 35 => ⟨S12x128x6144, .bf16⟩
  | _ => ⟨S12x128x6144, .bf16⟩

abbrev hbmTy (i : Nat) : BufTy := match i / 128 with
  | 0 => hbmTy0_0 i
  | 1 => hbmTy0_1 i
  | _ => ⟨S12x128x6144, .bf16⟩

abbrev bufTy : (tb : Table) → Fin (tcTables nBuf tb) → BufTy
  | .hbm, ⟨i, _⟩ => hbmTy i
  | .local _ .vmem, ⟨0, _⟩ => ⟨S12x4x256x16x96, .fp8e4m3⟩
  | .local _ .vmem, ⟨1, _⟩ => ⟨S12x4x256x16x96, .fp8e4m3⟩
  | .local _ .vmem, ⟨2, _⟩ => ⟨S12x128x6144, .fp8e5m2⟩
  | .local _ .vmem, ⟨3, _⟩ => ⟨S12x4x256x16x96, .bf16⟩
  | .local _ .vmem, ⟨4, _⟩ => ⟨S12x4x256x16x96, .bf16⟩
  | .local _ .vmem, ⟨5, _⟩ => ⟨S12x128x6144, .bf16⟩
  | .local _ .vmem, ⟨6, _⟩ => ⟨S12x128x6144, .f32⟩
  | _, _ => ⟨S12x128x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_1 : Ref sig .tc := ⟨.hbm, 38, rfl⟩
abbrev main_call2_v0 : Ref sig .tc := ⟨.hbm, 39, rfl⟩
abbrev main_call2_v1 : Ref sig .tc := ⟨.hbm, 40, rfl⟩
abbrev main_v16 : Ref sig .tc := ⟨.hbm, 41, rfl⟩
abbrev main_v17 : Ref sig .tc := ⟨.hbm, 42, rfl⟩
abbrev main_call3_c : Ref sig .tc := ⟨.hbm, 43, rfl⟩
abbrev main_call3_v0 : Ref sig .tc := ⟨.hbm, 44, rfl⟩
abbrev main_call3_v1 : Ref sig .tc := ⟨.hbm, 45, rfl⟩
abbrev main_call3_c_0 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_call3_c_1 : Ref sig .tc := ⟨.hbm, 50, rfl⟩
abbrev main_call3_c_2 : Ref sig .tc := ⟨.hbm, 51, rfl⟩
abbrev main_call3_v5 : Ref sig .tc := ⟨.hbm, 52, rfl⟩
abbrev main_call3_v6 : Ref sig .tc := ⟨.hbm, 53, rfl⟩
abbrev main_call3_v7 : Ref sig .tc := ⟨.hbm, 54, rfl⟩
abbrev main_call3_v8 : Ref sig .tc := ⟨.hbm, 55, rfl⟩
abbrev main_call3_v9 : Ref sig .tc := ⟨.hbm, 56, rfl⟩
abbrev main_call3_v10 : Ref sig .tc := ⟨.hbm, 57, rfl⟩
abbrev main_call3_c_3 : Ref sig .tc := ⟨.hbm, 58, rfl⟩
abbrev main_call3_v11 : Ref sig .tc := ⟨.hbm, 59, rfl⟩
abbrev main_call3_v12 : Ref sig .tc := ⟨.hbm, 60, rfl⟩
abbrev main_call3_v13 : Ref sig .tc := ⟨.hbm, 61, rfl⟩
abbrev main_call3_cst : Ref sig .tc := ⟨.hbm, 62, rfl⟩
abbrev main_call3_v14 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_call4_c : Ref sig .tc := ⟨.hbm, 68, rfl⟩
abbrev main_call4_v0 : Ref sig .tc := ⟨.hbm, 69, rfl⟩
abbrev main_call4_v1 : Ref sig .tc := ⟨.hbm, 70, rfl⟩
abbrev main_call4_c_0 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_c_1 : Ref sig .tc := ⟨.hbm, 75, rfl⟩
abbrev main_call4_c_2 : Ref sig .tc := ⟨.hbm, 76, rfl⟩
abbrev main_call4_v5 : Ref sig .tc := ⟨.hbm, 77, rfl⟩
abbrev main_call4_v6 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_call4_c_3 : Ref sig .tc := ⟨.hbm, 83, rfl⟩
abbrev main_call4_v11 : Ref sig .tc := ⟨.hbm, 84, rfl⟩
abbrev main_call4_v12 : Ref sig .tc := ⟨.hbm, 85, rfl⟩
abbrev main_call4_v13 : Ref sig .tc := ⟨.hbm, 86, rfl⟩
abbrev main_call4_cst : Ref sig .tc := ⟨.hbm, 87, rfl⟩
abbrev main_call4_v14 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_c_2 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_cst_3 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_cst_4 : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_cst_5 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_cst_6 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_cst_7 : Ref sig .tc := ⟨.hbm, 152, rfl⟩
abbrev main_call6_v0 : Ref sig .tc := ⟨.hbm, 153, rfl⟩
abbrev main_call6_v1 : Ref sig .tc := ⟨.hbm, 154, rfl⟩
abbrev main_call6_v2 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_cst_8 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12x4x256x16x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x4x256x16x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x128x6144 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x4x256x16x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x4x256x16x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x128x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x128x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Model.lean ====
/-
  The backward pass of the grouped cross-attention, written once over extended reals and coordinates: what both programs'
  arrays are shown to hold. `b` is a batch entry, `t` a query position, `g` a key/value head, `r` one of the four query heads
  that share it, `n` one of the four frames, `j` a key position within a frame and `d` a coordinate of a head.
-/
module

public import Idealize.ShloMosaic.Lib.Pointwise
public import Idealize.ShloMosaic.PureOps.Ideal

@[expose] public section

noncomputable section

namespace Cert.Model

open Idealize.ShloMosaic
open scoped BigOperators

/-- The arrays the pass reads. `ks` and `vs` are the key and value scales already taken at each query's own frame. -/
structure Inputs where
  q : (⟨3, ![12, 128, 6144]⟩ : Shape).Idx → EReal
  k : (⟨5, ![12, 4, 256, 16, 96]⟩ : Shape).Idx → EReal
  v : (⟨5, ![12, 4, 256, 16, 96]⟩ : Shape).Idx → EReal
  dout : (⟨3, ![12, 128, 6144]⟩ : Shape).Idx → EReal
  dscale : (⟨2, ![12, 128]⟩ : Shape).Idx → EReal
  o : (⟨3, ![12, 128, 6144]⟩ : Shape).Idx → EReal
  lse : (⟨3, ![12, 64, 128]⟩ : Shape).Idx → EReal
  idx : (⟨2, ![12, 128]⟩ : Shape).Idx → BitVec 32
  ks : (⟨3, ![12, 128, 16]⟩ : Shape).Idx → EReal
  vs : (⟨3, ![12, 128, 16]⟩ : Shape).Idx → EReal

/-- Coordinate `d` of query head `g * 4 + r` in a row of all the heads. -/
abbrev col (g : Fin 16) (r : Fin 4) (d : Fin 96) : Fin 6144 := ⟨g.val * 384 + r.val * 96 + d.val, by omega⟩

/-- The query head with number `r` of key/value head `g`. -/
abbrev hd (g : Fin 16) (r : Fin 4) : Fin 64 := ⟨g.val * 4 + r.val, by omega⟩

/-- The softmax scale, as the programs spell it. -/
abbrev scale : EReal := Ideal.ofBits .f32 1037108716#32

namespace Inputs

variable (I : Inputs)

/-- `x` where query `(b, t)` attends to frame `n`, and 0 elsewhere. -/
def pick (b : Fin 12) (n : Fin 4) (t : Fin 128) (x : EReal) : EReal :=
  Scalar.select (IntOp.cmpi .eq (I.idx (ix2 b t)) (BitVec.ofNat 32 n)) x 0

/-- The query rows, kept on their own frame. -/
def qn (b : Fin 12) (n : Fin 4) (t : Fin 128) (g : Fin 16) (r : Fin 4) (d : Fin 96) : EReal :=
  I.pick b n t (I.q (ix3 b t (col g r d)))

/-- The rows of the output's gradient, kept on their own frame. -/
def don (b : Fin 12) (n : Fin 4) (t : Fin 128) (g : Fin 16) (r : Fin 4) (d : Fin 96) : EReal :=
  I.pick b n t (I.dout (ix3 b t (col g r d)))

/-- The scores before scaling. -/
def s (b : Fin 12) (g : Fin 16) (r : Fin 4) (t : Fin 128) (j : Fin 256) : EReal :=
  ∑ d : Fin 96, ∑ n : Fin 4, I.k (ix5 b n j g d) * I.qn b n t g r d

/-- The probabilities, recomputed from the scores and the stored log-sum-exp; 0 for a query with no frame. -/
def p (b : Fin 12) (g : Fin 16) (r : Fin 4) (t : Fin 128) (j : Fin 256) : EReal :=
  Scalar.select (IntOp.cmpi .sge (I.idx (ix2 b t)) 0#32)
    (Ideal.exp (I.s b g r t j * I.ks (ix3 b t g) * scale - I.lse (ix3 b (hd g r) t))) 0

/-- The row sums of the gradient times the output. -/
def dvec (b : Fin 12) (g : Fin 16) (r : Fin 4) (t : Fin 128) : EReal :=
  ∑ d : Fin 96, I.dout (ix3 b t (col g r d)) * I.dscale (ix2 b t) * I.o (ix3 b t (col g r d))

/-- The gradient of the probabilities before scaling. -/
def dp (b : Fin 12) (g : Fin 16) (r : Fin 4) (t : Fin 128) (j : Fin 256) : EReal :=
  ∑ d : Fin 96, ∑ n : Fin 4, I.v (ix5 b n j g d) * I.don b n t g r d

/-- The gradient of the scores. -/
def ds (b : Fin 12) (g : Fin 16) (r : Fin 4) (t : Fin 128) (j : Fin 256) : EReal :=
  I.p b g r t j * (I.dp b g r t j * I.dscale (ix2 b t) * I.vs (ix3 b t g) - I.dvec b g r t)

/-- The gradient of the queries. -/
def dq (b : Fin 12) (t : Fin 128) (g : Fin 16) (r : Fin 4) (d : Fin 96) : EReal :=
  scale * ∑ j : Fin 256, ∑ n : Fin 4, I.pick b n t (I.k (ix5 b n j g d) * (I.ds b g r t j * I.ks (ix3 b t g)))

/-- The gradient of the keys. -/
def dk (b : Fin 12) (n : Fin 4) (j : Fin 256) (g : Fin 16) (d : Fin 96) : EReal :=
  scale * ∑ r : Fin 4, ∑ t : Fin 128, I.qn b n t g r d * I.ds b g r t j

/-- The gradient of the values. -/
def dv (b : Fin 12) (n : Fin 4) (j : Fin 256) (g : Fin 16) (d : Fin 96) : EReal :=
  ∑ r : Fin 4, ∑ t : Fin 128, I.don b n t g r d * (I.p b g r t j * I.dscale (ix2 b t))

/-! ### The three gradients as the arrays both programs return -/

def dqArr (i : (⟨3, ![12, 128, 6144]⟩ : Shape).Idx) : EReal :=
  I.dq (i 0) (i 1) ⟨(i 2).val / 384, by have h : (i 2).val < 6144 := (i 2).isLt; omega⟩ ⟨(i 2).val / 96 % 4, by omega⟩
    ⟨(i 2).val % 96, by omega⟩

def dkArr (i : (⟨5, ![12, 4, 256, 16, 96]⟩ : Shape).Idx) : EReal := I.dk (i 0) (i 1) (i 2) (i 3) (i 4)

def dvArr (i : (⟨5, ![12, 4, 256, 16, 96]⟩ : Shape).Idx) : EReal := I.dv (i 0) (i 1) (i 2) (i 3) (i 4)

/-- The queries' gradient at a column given by its heads and coordinate. -/
theorem dqArr_col (b : Fin 12) (t : Fin 128) (g : Fin 16) (r : Fin 4) (d : Fin 96) :
    I.dqArr (ix3 b t (col g r d)) = I.dq b t g r d := by
  have e0 : (g.val * 384 + r.val * 96 + d.val) / 384 = g.val := by omega
  have e1 : (g.val * 384 + r.val * 96 + d.val) / 96 % 4 = r.val := by omega
  have e2 : (g.val * 384 + r.val * 96 + d.val) % 96 = d.val := by omega
  show I.dq b t ⟨(g.val * 384 + r.val * 96 + d.val) / 384, _⟩ ⟨(g.val * 384 + r.val * 96 + d.val) / 96 % 4, _⟩
    ⟨(g.val * 384 + r.val * 96 + d.val) % 96, _⟩ = _
  simp only [e0, e1, e2]

end Inputs

end Cert.Model

end
-- ==== Proof.KernelBlock.lean ====
/-
  One grid point of the kernel, read at coordinates: every value its body computes from the seven input blocks of batch entry
  `b` and key/value head `g` is the matching term of `Cert.Model`. The body works on 512 rows, which are the 128 query
  positions of each of the four query heads in turn; `row r t` is the row of position `t` of head `r`.
-/
module

public import proofs.«01_k».proof.Proof.Gen.KernelIdeal.Frame
public import proofs.«01_k».proof.Proof.Model

@[expose] public section

set_option maxRecDepth 16384

noncomputable section

namespace Cert.KernelIdeal.Block

open Idealize.ShloMosaic Idealize.ShloMosaic.TcCoe
open Cert.KernelIdeal.Gen Cert.Model
open scoped BigOperators

/-- The row of query position `t` of head `r`. -/
abbrev row (r : Fin 4) (t : Fin 128) : Fin 512 := ⟨r.val * 128 + t.val, by omega⟩

/-- Column `d` of head `r` among the 384 columns of a block. -/
abbrev hcol (r : Fin 4) (d : Fin 96) : Fin 384 := ⟨r.val * 96 + d.val, by omega⟩

/-- A sum over the rows is a sum over heads and positions. -/
theorem sum_row (f : Fin 512 → EReal) : ∑ x, f x = ∑ r, ∑ t, f (row r t) := by
  rw [← Fintype.sum_prod_type' (f := fun r t => f (row r t))]
  refine (Fintype.sum_equiv (finProdFinEquiv (m := 4) (n := 128)) _ _ fun p => ?_).symm
  exact congrArg f (Fin.ext (by simp [finProdFinEquiv]; omega))

/-! ## The bodies that only move data -/

theorem pay2 (x : Vec Ideal S1x128x8 .f32) (r : Fin 4) (t : Fin 128) (c : Fin 8) :
    k0_pay2 x (ix2 (row r t) c) = x (ix3 0 t c) := by
  fin_cases r <;> pointwise [k0_pay2] <;>
    (split_ifs <;> first | omega | (congr 2; apply Fin.ext; show _ - _ = _; omega))

theorem pay3 (x : Vec Ideal S1x128x8 .f32) (r : Fin 4) (t : Fin 128) :
    k0_pay3 (View.ld x r0_0) (ix2 (row r t) 0) = x (ix3 0 t 0) :=
  (show _ = k0_pay2 (View.ld x r0_0) (ix2 (row r t) 0) by unfold k0_pay3; pointwise).trans
    ((pay2 _ r t 0).trans (by pointwise))

theorem pay4 (x : Vec Ideal S1x128x8 .f32) (r : Fin 4) (t : Fin 128) :
    k0_pay4 (View.ld x r0_0) (ix2 (row r t) 0) = x (ix3 0 t 1) :=
  (show _ = k0_pay2 (View.ld x r0_0) (ix2 (row r t) 1) by unfold k0_pay4; pointwise).trans
    ((pay2 _ r t 1).trans (by pointwise))

theorem pay5 (x : Vec Ideal S1x128x8 .f32) (r : Fin 4) (t : Fin 128) :
    k0_pay5 (View.ld x r0_0) (ix2 (row r t) 0) = x (ix3 0 t 2) :=
  (show _ = k0_pay2 (View.ld x r0_0) (ix2 (row r t) 2) by unfold k0_pay5; pointwise).trans
    ((pay2 _ r t 2).trans (by pointwise))

theorem pay6 (x : Vec Ideal S1x128x8 .f32) (r : Fin 4) (t : Fin 128) :
    k0_pay6 (View.ld x r0_0) (ix2 (row r t) 0) = x (ix3 0 t 3) :=
  (show _ = k0_pay2 (View.ld x r0_0) (ix2 (row r t) 3) by unfold k0_pay6; pointwise).trans
    ((pay2 _ r t 3).trans (by pointwise))

theorem pay7 (x : Vec Ideal S1x128x4 .f32) (r : Fin 4) (t : Fin 128) :
    k0_pay7 (View.ld x r0_1) (View.ld x r0_2) (View.ld x r0_3) (View.ld x r0_4) (ix2 (row r t) 0) = x (ix3 0 t r) := by
  fin_cases r <;> pointwise [k0_pay7] <;>
    (split_ifs <;> first | omega | (congr 2; apply Fin.ext; show _ - _ = _; omega))

theorem pay8 (x : Vec Ideal S1x128x384 .bf16) (r : Fin 4) (t : Fin 128) (d : Fin 96) :
    k0_pay8 (View.ld x r0_5) (ix2 (row r t) d) = x (ix3 0 t (hcol r d)) := by
  fin_cases r <;> pointwise [k0_pay8] <;>
    ((try split_ifs) <;> first | omega | (congr 2 <;> apply Fin.ext <;> simp <;> omega))

theorem pay9 (x : Vec Ideal S1x128x384 .fp8e5m2) (r : Fin 4) (t : Fin 128) (d : Fin 96) :
    k0_pay9 (View.ld x r0_5) (ix2 (row r t) d) = x (ix3 0 t (hcol r d)) := by
  fin_cases r <;> pointwise [k0_pay9] <;>
    ((try split_ifs) <;> first | omega | (congr 2 <;> apply Fin.ext <;> simp <;> omega))

theorem pay11 (c : FVec Ideal S512x1 .f32) (y : FVec Ideal S512x96 .f32) (x : Vec Ideal S1x128x384 .bf16)
    (r : Fin 4) (t : Fin 128) :
    k0_pay11 c y (k0_pay10 (View.ld x r0_5)) (ix2 (row r t) 0)
      = ∑ d : Fin 96, y (ix2 (row r t) d) * c (ix2 (row r t) 0) * x (ix3 0 t (hcol r d)) := by
  fin_cases r <;> pointwise [k0_pay11, k0_pay10] <;>
    (refine Finset.sum_congr rfl fun d _ => ?_
     (try split_ifs) <;> first | omega | (congr 2 <;> first | rfl | (congr 1 <;> first | rfl | (apply Fin.ext; simp; done) | (apply Fin.ext; simp; omega) | (congr 1 <;> apply Fin.ext <;> simp <;> omega))))

/-! ## The masks -/

theorem toInt_eq (w v : BitVec 32) : ((w.toInt : ℝ) : EReal) = ((v.toInt : ℝ) : EReal) ↔ w = v := by
  rw [EReal.coe_eq_coe_iff, Int.cast_inj, BitVec.toInt_inj]

theorem two_word : Ideal.ofBits .f32 0x40000000#32 = ((2 : ℝ) : EReal) := by
  simp [Ideal.ofBits, Ideal.ieee, -EReal.coe_mul]; norm_num

theorem three_word : Ideal.ofBits .f32 0x40400000#32 = ((3 : ℝ) : EReal) := by
  simp [Ideal.ofBits, Ideal.ieee, -EReal.coe_mul]; norm_num

/-- A frame number as an extended real is the one `x` is compared with exactly when the words agree. -/
theorem oeq_word (w v : BitVec 32) (z : EReal) (hz : z = ((v.toInt : ℝ) : EReal)) :
    BitVec.ofBool (decide (((w.toInt : ℝ) : EReal) = z)) = IntOp.cmpi .eq w v := by
  rw [hz]
  simp only [toInt_eq, IntOp.cmpi, beq_eq_decide]

/-- The sign test of an integer taken to the extended reals is the test of its word. -/
theorem oge_word (w : BitVec 32) : BitVec.ofBool (decide ((0 : EReal) ≤ ((w.toInt : ℝ) : EReal))) = IntOp.cmpi .sge w 0#32 := by
  simp only [IntOp.cmpi, BitVec.sle, EReal.coe_nonneg, Int.cast_nonneg_iff]
  simp

/-- The input blocks of batch entry `b` and key/value head `g` hold that part of the inputs `I`. -/
structure Holds (I : Inputs) (b : Fin 12) (g : Fin 16) (x0 : Vec Ideal S1x128x384 .bf16) (x1 : Vec Ideal S1x4x1x96x256 .fp8e4m3)
    (x2 : Vec Ideal S1x4x1x96x256 .fp8e4m3) (x3 : Vec Ideal S1x128x384 .fp8e5m2) (x4 : Vec Ideal S1x128x384 .bf16)
    (x5 : Vec Ideal S1x128x4 .f32) (x6 : Vec Ideal S1x128x8 .f32) : Prop where
  q : ∀ (t : Fin 128) (r : Fin 4) (d : Fin 96), x0 (ix3 0 t (hcol r d)) = I.q (ix3 b t (col g r d))
  k : ∀ (n : Fin 4) (d : Fin 96) (j : Fin 256), x1 (ix5 0 n 0 d j) = I.k (ix5 b n j g d)
  v : ∀ (n : Fin 4) (d : Fin 96) (j : Fin 256), x2 (ix5 0 n 0 d j) = I.v (ix5 b n j g d)
  dout : ∀ (t : Fin 128) (r : Fin 4) (d : Fin 96), x3 (ix3 0 t (hcol r d)) = I.dout (ix3 b t (col g r d))
  o : ∀ (t : Fin 128) (r : Fin 4) (d : Fin 96), x4 (ix3 0 t (hcol r d)) = I.o (ix3 b t (col g r d))
  lse : ∀ (t : Fin 128) (r : Fin 4), x5 (ix3 0 t r) = I.lse (ix3 b (hd g r) t)
  idx : ∀ t : Fin 128, x6 (ix3 0 t 0) = (((I.idx (ix2 b t)).toInt : ℝ) : EReal)
  dscale : ∀ t : Fin 128, x6 (ix3 0 t 1) = I.dscale (ix2 b t)
  ks : ∀ t : Fin 128, x6 (ix3 0 t 2) = I.ks (ix3 b t g)
  vs : ∀ t : Fin 128, x6 (ix3 0 t 3) = I.vs (ix3 b t g)

variable {I : Inputs} {b : Fin 12} {g : Fin 16} {x0 : Vec Ideal S1x128x384 .bf16} {x1 : Vec Ideal S1x4x1x96x256 .fp8e4m3}
  {x2 : Vec Ideal S1x4x1x96x256 .fp8e4m3} {x3 : Vec Ideal S1x128x384 .fp8e5m2} {x4 : Vec Ideal S1x128x384 .bf16}
  {x5 : Vec Ideal S1x128x4 .f32} {x6 : Vec Ideal S1x128x8 .f32} (h : Holds I b g x0 x1 x2 x3 x4 x5 x6)

include h

/-! ## Columns of one value per row -/

theorem pay58 (r : Fin 4) (t : Fin 128) :
    k0_pay58 x0 x1 x2 x3 x4 x5 x6 (ix2 (row r t) 0) = (((I.idx (ix2 b t)).toInt : ℝ) : EReal) :=
  (pay3 x6 r t).trans (h.idx t)

theorem pay59 (r : Fin 4) (t : Fin 128) : k0_pay59 x0 x1 x2 x3 x4 x5 x6 (ix2 (row r t) 0) = I.dscale (ix2 b t) :=
  (pay4 x6 r t).trans (h.dscale t)

theorem pay60 (r : Fin 4) (t : Fin 128) : k0_pay60 x0 x1 x2 x3 x4 x5 x6 (ix2 (row r t) 0) = I.ks (ix3 b t g) :=
  (pay5 x6 r t).trans (h.ks t)

theorem pay61 (r : Fin 4) (t : Fin 128) : k0_pay61 x0 x1 x2 x3 x4 x5 x6 (ix2 (row r t) 0) = I.vs (ix3 b t g) :=
  (pay6 x6 r t).trans (h.vs t)

theorem pay62 (r : Fin 4) (t : Fin 128) (d : Fin 96) : k0_pay62 x0 x1 x2 x3 x4 x5 x6 (ix2 (row r t) d) = I.q (ix3 b t (col g r d)) :=
  (pay8 x0 r t d).trans (h.q t r d)

theorem pay63 (r : Fin 4) (t : Fin 128) (d : Fin 96) : k0_pay63 x0 x1 x2 x3 x4 x5 x6 (ix2 (row r t) d) = I.dout (ix3 b t (col g r d)) :=
  (pay9 x3 r t d).trans (h.dout t r d)

theorem pay64 (r : Fin 4) (t : Fin 128) : k0_pay64 x0 x1 x2 x3 x4 x5 x6 (ix2 (row r t) 0) = I.dvec b g r t := by
  refine (pay11 _ _ x4 r t).trans (Finset.sum_congr rfl fun d _ => ?_)
  rw [pay63 h, pay59 h, h.o]

/-! ## The keys and values of each frame -/

theorem pay65 (d : Fin 96) (j : Fin 256) : k0_pay65 x0 x1 x2 x3 x4 x5 x6 (ix2 d j) = I.k (ix5 b 0 j g d) :=
  (show _ = x1 (ix5 0 0 0 d j) by unfold k0_pay65; pointwise [k0_pay12]).trans (h.k 0 d j)

theorem pay66 (d : Fin 96) (j : Fin 256) : k0_pay66 x0 x1 x2 x3 x4 x5 x6 (ix2 d j) = I.k (ix5 b 1 j g d) :=
  (show _ = x1 (ix5 0 1 0 d j) by unfold k0_pay66; pointwise [k0_pay13]).trans (h.k 1 d j)

theorem pay67 (d : Fin 96) (j : Fin 256) : k0_pay67 x0 x1 x2 x3 x4 x5 x6 (ix2 d j) = I.k (ix5 b 2 j g d) :=
  (show _ = x1 (ix5 0 2 0 d j) by unfold k0_pay67; pointwise [k0_pay14]).trans (h.k 2 d j)

theorem pay68 (d : Fin 96) (j : Fin 256) : k0_pay68 x0 x1 x2 x3 x4 x5 x6 (ix2 d j) = I.k (ix5 b 3 j g d) :=
  (show _ = x1 (ix5 0 3 0 d j) by unfold k0_pay68; pointwise [k0_pay15]).trans (h.k 3 d j)

theorem pay16 (d : Fin 96) (j : Fin 256) : k0_pay16 (View.ld x2 r0_6) (ix2 d j) = I.v (ix5 b 0 j g d) :=
  (show _ = x2 (ix5 0 0 0 d j) by pointwise [k0_pay16]).trans (h.v 0 d j)

theorem pay17 (d : Fin 96) (j : Fin 256) : k0_pay17 (View.ld x2 r0_7) (ix2 d j) = I.v (ix5 b 1 j g d) :=
  (show _ = x2 (ix5 0 1 0 d j) by pointwise [k0_pay17]).trans (h.v 1 d j)

theorem pay18 (d : Fin 96) (j : Fin 256) : k0_pay18 (View.ld x2 r0_8) (ix2 d j) = I.v (ix5 b 2 j g d) :=
  (show _ = x2 (ix5 0 2 0 d j) by pointwise [k0_pay18]).trans (h.v 2 d j)

theorem pay19 (d : Fin 96) (j : Fin 256) : k0_pay19 (View.ld x2 r0_9) (ix2 d j) = I.v (ix5 b 3 j g d) :=
  (show _ = x2 (ix5 0 3 0 d j) by pointwise [k0_pay19]).trans (h.v 3 d j)

/-! ## Which rows belong to each frame, and which to any -/

theorem pay20 (r : Fin 4) (t : Fin 128) :
    k0_pay20 (k0_pay58 x0 x1 x2 x3 x4 x5 x6) (ix2 (row r t) 0) = IntOp.cmpi .eq (I.idx (ix2 b t)) (BitVec.ofNat 32 0) := by
  pointwise [k0_pay20, pay58 h]
  exact oeq_word _ _ _ (by simp)

theorem pay69 (r : Fin 4) (t : Fin 128) :
    k0_pay69 x0 x1 x2 x3 x4 x5 x6 (ix2 (row r t) 0) = IntOp.cmpi .eq (I.idx (ix2 b t)) (BitVec.ofNat 32 1) := by
  unfold k0_pay69
  pointwise [k0_pay21, pay58 h]
  exact oeq_word _ _ _ (by simp)

theorem pay70 (r : Fin 4) (t : Fin 128) :
    k0_pay70 x0 x1 x2 x3 x4 x5 x6 (ix2 (row r t) 0) = IntOp.cmpi .eq (I.idx (ix2 b t)) (BitVec.ofNat 32 2) := by
  unfold k0_pay70
  pointwise [k0_pay22, pay58 h]
  exact oeq_word _ _ _ (two_word.trans (by simp))

theorem pay71 (r : Fin 4) (t : Fin 128) :
    k0_pay71 x0 x1 x2 x3 x4 x5 x6 (ix2 (row r t) 0) = IntOp.cmpi .eq (I.idx (ix2 b t)) (BitVec.ofNat 32 3) := by
  unfold k0_pay71
  pointwise [k0_pay23, pay58 h]
  exact oeq_word _ _ _ (three_word.trans (by simp))

theorem pay79 (r : Fin 4) (t : Fin 128) :
    k0_pay79 x0 x1 x2 x3 x4 x5 x6 (ix2 (row r t) 0) = IntOp.cmpi .sge (I.idx (ix2 b t)) 0#32 := by
  unfold k0_pay79
  pointwise [k0_pay35, pay58 h]
  exact oge_word _

/-! ## The rows kept on each frame -/

theorem pay72 (r : Fin 4) (t : Fin 128) (d : Fin 96) : k0_pay72 x0 x1 x2 x3 x4 x5 x6 (ix2 (row r t) d) = I.qn b 0 t g r d := by
  unfold k0_pay72
  pointwise [k0_pay24, pay20 h, pay62 h]
  rfl

theorem pay73 (r : Fin 4) (t : Fin 128) (d : Fin 96) : k0_pay73 x0 x1 x2 x3 x4 x5 x6 (ix2 (row r t) d) = I.qn b 1 t g r d := by
  have e := pay69 h r t
  unfold k0_pay69 at e
  unfold k0_pay73
  pointwise [k0_pay25, e, pay62 h]
  rfl

theorem pay74 (r : Fin 4) (t : Fin 128) (d : Fin 96) : k0_pay74 x0 x1 x2 x3 x4 x5 x6 (ix2 (row r t) d) = I.qn b 2 t g r d := by
  have e := pay70 h r t
  unfold k0_pay70 at e
  unfold k0_pay74
  pointwise [k0_pay26, e, pay62 h]
  rfl

theorem pay75 (r : Fin 4) (t : Fin 128) (d : Fin 96) : k0_pay75 x0 x1 x2 x3 x4 x5 x6 (ix2 (row r t) d) = I.qn b 3 t g r d := by
  have e := pay71 h r t
  unfold k0_pay71 at e
  unfold k0_pay75
  pointwise [k0_pay27, e, pay62 h]
  rfl

theorem pay76 (r : Fin 4) (t : Fin 128) (d : Fin 96) : k0_pay76 x0 x1 x2 x3 x4 x5 x6 (ix2 (row r t) d) = I.don b 0 t g r d := by
  unfold k0_pay76
  pointwise [k0_pay28, pay20 h, pay63 h]
  rfl

theorem pay29 (r : Fin 4) (t : Fin 128) (d : Fin 96) : k0_pay29 (k0_pay76 x0 x1 x2 x3 x4 x5 x6) (ix2 (row r t) d) = I.don b 0 t g r d := by
  pointwise [k0_pay29, pay76 h]

theorem pay30 (r : Fin 4) (t : Fin 128) (d : Fin 96) :
    k0_pay30 (k0_pay63 x0 x1 x2 x3 x4 x5 x6) (k0_pay69 x0 x1 x2 x3 x4 x5 x6) (ix2 (row r t) d) = I.don b 1 t g r d := by
  pointwise [k0_pay30, pay69 h, pay63 h]
  rfl

theorem pay31 (r : Fin 4) (t : Fin 128) (d : Fin 96) :
    k0_pay31 (k0_pay63 x0 x1 x2 x3 x4 x5 x6) (k0_pay70 x0 x1 x2 x3 x4 x5 x6) (ix2 (row r t) d) = I.don b 2 t g r d := by
  pointwise [k0_pay31, pay70 h, pay63 h]
  rfl

theorem pay32 (r : Fin 4) (t : Fin 128) (d : Fin 96) :
    k0_pay32 (k0_pay63 x0 x1 x2 x3 x4 x5 x6) (k0_pay71 x0 x1 x2 x3 x4 x5 x6) (ix2 (row r t) d) = I.don b 3 t g r d := by
  pointwise [k0_pay32, pay71 h, pay63 h]
  rfl

/-! ## Scores, probabilities and their gradients -/

omit h in
/-- Four products summed one frame after another are one sum over coordinates and frames. -/
theorem sum_frames (f g : Fin 4 → Fin 96 → EReal) :
    ∑ d, f 0 d * g 0 d + ∑ d, f 1 d * g 1 d + ∑ d, f 2 d * g 2 d + ∑ d, f 3 d * g 3 d = ∑ d, ∑ n, g n d * f n d := by
  simp only [Fin.sum_univ_four, Finset.sum_add_distrib, mul_comm]

theorem pay77 (r : Fin 4) (t : Fin 128) (j : Fin 256) : k0_pay77 x0 x1 x2 x3 x4 x5 x6 (ix2 (row r t) j) = I.dp b g r t j := by
  unfold k0_pay77
  pointwise [k0_pay33, pay29 h, pay30 h, pay31 h, pay32 h, pay16 h, pay17 h, pay18 h, pay19 h]
  exact sum_frames (fun n d => I.don b n t g r d) (fun n d => I.v (ix5 b n j g d))

theorem pay78 (r : Fin 4) (t : Fin 128) (j : Fin 256) :
    k0_pay78 x0 x1 x2 x3 x4 x5 x6 (ix2 (row r t) j)
      = Ideal.exp (I.s b g r t j * I.ks (ix3 b t g) * scale - I.lse (ix3 b (hd g r) t)) := by
  unfold k0_pay78
  pointwise [k0_pay34, pay7, h.lse, pay60 h, pay65 h, pay66 h, pay67 h, pay68 h, pay72 h, pay73 h, pay74 h, pay75 h]
  rw [sum_frames (fun n d => I.qn b n t g r d) (fun n d => I.k (ix5 b n j g d))]
  rfl

/-- The probabilities: the masked rows' 0 is the number zero. -/
theorem pay36 (r : Fin 4) (t : Fin 128) (j : Fin 256) :
    k0_pay36 (k0_pay78 x0 x1 x2 x3 x4 x5 x6) (0 : EReal) (k0_pay79 x0 x1 x2 x3 x4 x5 x6) (ix2 (row r t) j) = I.p b g r t j := by
  pointwise [k0_pay36, pay78 h, pay79 h]
  rfl

theorem pay37 (r : Fin 4) (t : Fin 128) (j : Fin 256) :
    k0_pay37 (k0_pay59 x0 x1 x2 x3 x4 x5 x6) (k0_pay61 x0 x1 x2 x3 x4 x5 x6) (k0_pay64 x0 x1 x2 x3 x4 x5 x6) (k0_pay77 x0 x1 x2 x3 x4 x5 x6) (k0_pay78 x0 x1 x2 x3 x4 x5 x6) (0 : EReal) (k0_pay79 x0 x1 x2 x3 x4 x5 x6)
      (ix2 (row r t) j) = I.ds b g r t j := by
  pointwise [k0_pay37, pay36 h, pay59 h, pay61 h, pay77 h, pay64 h]
  rw [← mul_assoc]
  rfl

theorem pay38 (r : Fin 4) (t : Fin 128) (j : Fin 256) :
    k0_pay38 (k0_pay59 x0 x1 x2 x3 x4 x5 x6) (k0_pay78 x0 x1 x2 x3 x4 x5 x6) (0 : EReal) (k0_pay79 x0 x1 x2 x3 x4 x5 x6) (ix2 (row r t) j) = I.p b g r t j * I.dscale (ix2 b t) := by
  pointwise [k0_pay38, pay36 h, pay59 h]

theorem pay39 (r : Fin 4) (t : Fin 128) (j : Fin 256) :
    k0_pay39 (k0_pay59 x0 x1 x2 x3 x4 x5 x6) (k0_pay61 x0 x1 x2 x3 x4 x5 x6) (k0_pay64 x0 x1 x2 x3 x4 x5 x6) (k0_pay77 x0 x1 x2 x3 x4 x5 x6) (k0_pay78 x0 x1 x2 x3 x4 x5 x6) (0 : EReal) (k0_pay79 x0 x1 x2 x3 x4 x5 x6)
      (ix2 (row r t) j) = I.ds b g r t j := by
  pointwise [k0_pay39, pay37 h]

theorem pay40 (r : Fin 4) (t : Fin 128) (j : Fin 256) :
    k0_pay40 (k0_pay59 x0 x1 x2 x3 x4 x5 x6) (k0_pay60 x0 x1 x2 x3 x4 x5 x6) (k0_pay61 x0 x1 x2 x3 x4 x5 x6) (k0_pay64 x0 x1 x2 x3 x4 x5 x6) (k0_pay77 x0 x1 x2 x3 x4 x5 x6) (k0_pay78 x0 x1 x2 x3 x4 x5 x6) (0 : EReal) (k0_pay79 x0 x1 x2 x3 x4 x5 x6)
      (ix2 (row r t) j) = I.ds b g r t j * I.ks (ix3 b t g) := by
  pointwise [k0_pay40, pay37 h, pay60 h]

theorem pay80 (r : Fin 4) (t : Fin 128) (j : Fin 256) :
    k0_pay80 x0 x1 x2 x3 x4 x5 x6 (ix2 (row r t) j) = I.p b g r t j * I.dscale (ix2 b t) := by
  unfold k0_pay80
  pointwise [pay38 h]

theorem pay81 (r : Fin 4) (t : Fin 128) (j : Fin 256) : k0_pay81 x0 x1 x2 x3 x4 x5 x6 (ix2 (row r t) j) = I.ds b g r t j := by
  unfold k0_pay81
  pointwise [pay39 h]

theorem pay82 (r : Fin 4) (t : Fin 128) (j : Fin 256) :
    k0_pay82 x0 x1 x2 x3 x4 x5 x6 (ix2 (row r t) j) = I.ds b g r t j * I.ks (ix3 b t g) := by
  unfold k0_pay82
  pointwise [pay40 h]

/-! ## The values' gradient, one frame at a time -/

theorem pay41 (d : Fin 96) (j : Fin 256) :
    k0_pay41 (k0_pay59 x0 x1 x2 x3 x4 x5 x6) (k0_pay29 (k0_pay76 x0 x1 x2 x3 x4 x5 x6)) (k0_pay78 x0 x1 x2 x3 x4 x5 x6) (Scalar.ofBits .f32 0x00000000#32) (k0_pay79 x0 x1 x2 x3 x4 x5 x6) (ix5 0 0 0 d j) = I.dv b 0 j g d := by
  pointwise [k0_pay41]
  simp only [sum_row, pay29 h, pay38 h]
  rfl

theorem pay45 (d : Fin 96) (j : Fin 256) :
    k0_pay45 (k0_pay44 (k0_pay59 x0 x1 x2 x3 x4 x5 x6) (k0_pay30 (k0_pay63 x0 x1 x2 x3 x4 x5 x6) (k0_pay69 x0 x1 x2 x3 x4 x5 x6)) (k0_pay78 x0 x1 x2 x3 x4 x5 x6) (Scalar.ofBits .f32 0x00000000#32) (k0_pay79 x0 x1 x2 x3 x4 x5 x6)) (ix5 0 0 0 d j) = I.dv b 1 j g d := by
  pointwise [k0_pay45, k0_pay44]
  simp only [sum_row, pay30 h, pay38 h]
  rfl

theorem pay47 (d : Fin 96) (j : Fin 256) :
    k0_pay47 (k0_pay31 (k0_pay63 x0 x1 x2 x3 x4 x5 x6) (k0_pay70 x0 x1 x2 x3 x4 x5 x6)) (k0_pay80 x0 x1 x2 x3 x4 x5 x6) (ix5 0 0 0 d j) = I.dv b 2 j g d := by
  pointwise [k0_pay47]
  simp only [sum_row, pay31 h, pay80 h]
  rfl

theorem pay51 (d : Fin 96) (j : Fin 256) :
    k0_pay51 (k0_pay50 (k0_pay32 (k0_pay63 x0 x1 x2 x3 x4 x5 x6) (k0_pay71 x0 x1 x2 x3 x4 x5 x6)) (k0_pay80 x0 x1 x2 x3 x4 x5 x6)) (ix5 0 0 0 d j) = I.dv b 3 j g d := by
  pointwise [k0_pay51, k0_pay50]
  simp only [sum_row, pay32 h, pay80 h]
  rfl

/-! ## The keys' gradient, one frame at a time -/

theorem pay42 (d : Fin 96) (j : Fin 256) :
    k0_pay42 (k0_pay59 x0 x1 x2 x3 x4 x5 x6) (k0_pay61 x0 x1 x2 x3 x4 x5 x6) (k0_pay64 x0 x1 x2 x3 x4 x5 x6) (k0_pay72 x0 x1 x2 x3 x4 x5 x6) (k0_pay77 x0 x1 x2 x3 x4 x5 x6) (k0_pay78 x0 x1 x2 x3 x4 x5 x6) (Scalar.ofBits .f32 0x00000000#32) (k0_pay79 x0 x1 x2 x3 x4 x5 x6) (ix5 0 0 0 d j) = I.dk b 0 j g d := by
  pointwise [k0_pay42]
  simp only [sum_row, pay72 h, pay39 h]
  rfl

theorem pay46 (d : Fin 96) (j : Fin 256) :
    k0_pay46 (k0_pay73 x0 x1 x2 x3 x4 x5 x6) (k0_pay81 x0 x1 x2 x3 x4 x5 x6) (ix5 0 0 0 d j) = I.dk b 1 j g d := by
  pointwise [k0_pay46]
  simp only [sum_row, pay73 h, pay81 h]
  rfl

theorem pay48 (d : Fin 96) (j : Fin 256) :
    k0_pay48 (k0_pay74 x0 x1 x2 x3 x4 x5 x6) (k0_pay81 x0 x1 x2 x3 x4 x5 x6) (ix5 0 0 0 d j) = I.dk b 2 j g d := by
  pointwise [k0_pay48]
  simp only [sum_row, pay74 h, pay81 h]
  rfl

theorem pay52 (d : Fin 96) (j : Fin 256) :
    k0_pay52 (k0_pay75 x0 x1 x2 x3 x4 x5 x6) (k0_pay81 x0 x1 x2 x3 x4 x5 x6) (ix5 0 0 0 d j) = I.dk b 3 j g d := by
  pointwise [k0_pay52]
  simp only [sum_row, pay75 h, pay81 h]
  rfl

/-! ## The queries' gradient -/

omit h in
/-- Taking the product of the last frame a row belongs to, or 0, is summing the products masked by frame: a row belongs to at
    most one. -/
theorem chain_eq_sum (w : BitVec 32) (f : Fin 4 → Fin 256 → EReal) :
    Scalar.select (IntOp.cmpi .eq w (BitVec.ofNat 32 3)) (∑ j, f 3 j)
      (Scalar.select (IntOp.cmpi .eq w (BitVec.ofNat 32 2)) (∑ j, f 2 j)
        (Scalar.select (IntOp.cmpi .eq w (BitVec.ofNat 32 1)) (∑ j, f 1 j)
          (Scalar.select (IntOp.cmpi .eq w (BitVec.ofNat 32 0)) (∑ j, f 0 j) 0)))
      = ∑ j, ∑ n : Fin 4, Scalar.select (IntOp.cmpi .eq w (BitVec.ofNat 32 n.val)) (f n j) 0 := by
  have hsel : ∀ (v : BitVec 32) (x y : EReal), Scalar.select (IntOp.cmpi .eq w v) x y = if w = v then x else y := by
    intro v x y
    by_cases e : w = v <;> simp [Scalar.select, IntOp.cmpi, e, beq_eq_decide]
  simp only [hsel, Fin.sum_univ_four, Finset.sum_add_distrib]
  by_cases h3 : w = 3#32
  · subst h3; simp
  by_cases h2 : w = 2#32
  · subst h2; simp
  by_cases h1 : w = 1#32
  · subst h1; simp
  by_cases h0 : w = 0#32
  · subst h0; simp
  · simp [h0, h1, h2, h3]

theorem pay43 (r : Fin 4) (t : Fin 128) (d : Fin 96) :
    k0_pay43 (k0_pay59 x0 x1 x2 x3 x4 x5 x6) (k0_pay60 x0 x1 x2 x3 x4 x5 x6) (k0_pay61 x0 x1 x2 x3 x4 x5 x6) (k0_pay64 x0 x1 x2 x3 x4 x5 x6) (k0_pay65 x0 x1 x2 x3 x4 x5 x6) (k0_pay20 (k0_pay58 x0 x1 x2 x3 x4 x5 x6)) (k0_pay77 x0 x1 x2 x3 x4 x5 x6) (k0_pay78 x0 x1 x2 x3 x4 x5 x6) (0 : EReal) (k0_pay79 x0 x1 x2 x3 x4 x5 x6) (ix2 (row r t) d)
      = Scalar.select (IntOp.cmpi .eq (I.idx (ix2 b t)) (BitVec.ofNat 32 0))
          (∑ j : Fin 256, I.ds b g r t j * I.ks (ix3 b t g) * I.k (ix5 b 0 j g d)) 0 := by
  pointwise [k0_pay43, pay40 h, pay65 h, pay20 h]

theorem pay83 (r : Fin 4) (t : Fin 128) (d : Fin 96) :
    k0_pay83 x0 x1 x2 x3 x4 x5 x6 (ix2 (row r t) d)
      = Scalar.select (IntOp.cmpi .eq (I.idx (ix2 b t)) (BitVec.ofNat 32 2))
          (∑ j : Fin 256, I.ds b g r t j * I.ks (ix3 b t g) * I.k (ix5 b 2 j g d))
          (Scalar.select (IntOp.cmpi .eq (I.idx (ix2 b t)) (BitVec.ofNat 32 1))
            (∑ j : Fin 256, I.ds b g r t j * I.ks (ix3 b t g) * I.k (ix5 b 1 j g d))
            (Scalar.select (IntOp.cmpi .eq (I.idx (ix2 b t)) (BitVec.ofNat 32 0))
              (∑ j : Fin 256, I.ds b g r t j * I.ks (ix3 b t g) * I.k (ix5 b 0 j g d)) 0)) := by
  unfold k0_pay83
  pointwise [k0_pay49, pay43 h, pay82 h, pay66 h, pay67 h, pay69 h, pay70 h]

theorem pay53 (r : Fin 4) (t : Fin 128) (d : Fin 96) :
    k0_pay53 (k0_pay68 x0 x1 x2 x3 x4 x5 x6) (k0_pay71 x0 x1 x2 x3 x4 x5 x6) (k0_pay82 x0 x1 x2 x3 x4 x5 x6) (k0_pay83 x0 x1 x2 x3 x4 x5 x6) (ix2 (row r t) d) = I.dq b t g r d := by
  pointwise [k0_pay53, pay83 h, pay82 h, pay68 h, pay71 h]
  rw [chain_eq_sum _ fun n j => I.ds b g r t j * I.ks (ix3 b t g) * I.k (ix5 b n j g d)]
  simp only [mul_comm _ (I.k _)]
  rfl

theorem pay54 (t : Fin 128) (d : Fin 96) :
    k0_pay54 (k0_pay68 x0 x1 x2 x3 x4 x5 x6) (k0_pay71 x0 x1 x2 x3 x4 x5 x6) (k0_pay82 x0 x1 x2 x3 x4 x5 x6) (k0_pay83 x0 x1 x2 x3 x4 x5 x6) (ix3 0 t d) = I.dq b t g 0 d :=
  (show _ = k0_pay53 _ _ _ _ (ix2 (row 0 t) d) by unfold k0_pay54; pointwise; congr 2; apply Fin.ext; simp).trans (pay53 h 0 t d)

theorem pay55 (t : Fin 128) (d : Fin 96) :
    k0_pay55 (k0_pay68 x0 x1 x2 x3 x4 x5 x6) (k0_pay71 x0 x1 x2 x3 x4 x5 x6) (k0_pay82 x0 x1 x2 x3 x4 x5 x6) (k0_pay83 x0 x1 x2 x3 x4 x5 x6) (ix3 0 t d) = I.dq b t g 1 d :=
  (show _ = k0_pay53 _ _ _ _ (ix2 (row 1 t) d) by unfold k0_pay55; pointwise; congr 2).trans (pay53 h 1 t d)

theorem pay56 (t : Fin 128) (d : Fin 96) :
    k0_pay56 (k0_pay68 x0 x1 x2 x3 x4 x5 x6) (k0_pay71 x0 x1 x2 x3 x4 x5 x6) (k0_pay82 x0 x1 x2 x3 x4 x5 x6) (k0_pay83 x0 x1 x2 x3 x4 x5 x6) (ix3 0 t d) = I.dq b t g 2 d :=
  (show _ = k0_pay53 _ _ _ _ (ix2 (row 2 t) d) by unfold k0_pay56; pointwise; congr 2).trans (pay53 h 2 t d)

theorem pay57 (t : Fin 128) (d : Fin 96) :
    k0_pay1 (k0_pay57 (k0_pay68 x0 x1 x2 x3 x4 x5 x6) (k0_pay71 x0 x1 x2 x3 x4 x5 x6) (k0_pay82 x0 x1 x2 x3 x4 x5 x6) (k0_pay83 x0 x1 x2 x3 x4 x5 x6)) (ix3 0 t d) = I.dq b t g 3 d :=
  (show _ = k0_pay53 _ _ _ _ (ix2 (row 3 t) d) by unfold k0_pay57; pointwise [k0_pay1]; congr 2).trans (pay53 h 3 t d)

end Cert.KernelIdeal.Block
end
-- ==== Proof.KernelOut.lean ====
/-
  What one grid point of the kernel leaves in its three output blocks, store by store: the four heads' columns of the queries'
  gradient and the four frames of the keys' and values' gradients.
-/
module

public import proofs.«01_k».proof.Proof.KernelBlock

@[expose] public section

set_option maxRecDepth 16384

noncomputable section

namespace Cert.KernelIdeal.Block

open Idealize.ShloMosaic Idealize.ShloMosaic.TcCoe
open Cert.KernelIdeal.Gen Cert.Model
open scoped BigOperators

/-- Where a store of 96 columns at `c` puts its element. -/
theorem emb_cols (c : ℕ) (inb : ∀ a, ![0, 0, c] a + S1x128x96.size a ≤ S1x128x384.size a) (t : Fin 128) (r : Fin 4) (d : Fin 96)
    (hc : c = r.val * 96) :
    ix3 0 t (hcol r d) = (Rect.unit (s := S1x128x384) ![0, 0, c] S1x128x96.size inb).emb (ix3 0 t d) := by
  subst hc
  funext a
  fin_cases a <;> apply Fin.ext <;> simp [Rect.emb, Rect.unit]

/-- A store of 96 columns at another head's columns does not reach head `r`. -/
theorem not_mem_cols (c : ℕ) (inb : ∀ a, ![0, 0, c] a + S1x128x96.size a ≤ S1x128x384.size a) (t : Fin 128) (r r' : Fin 4)
    (d : Fin 96) (hc : c = r'.val * 96) (hr : r ≠ r') :
    ix3 0 t (hcol r d) ∉ (Rect.unit (s := S1x128x384) ![0, 0, c] S1x128x96.size inb).set := by
  intro hm
  have h2 := (Rect.mem_set_unit.mp hm) 2
  have hlo : c ≤ r.val * 96 + d.val := h2.1
  have hhi : r.val * 96 + d.val < c + 96 := h2.2
  exact hr (Fin.ext (by omega))

/-- Where a store of frame `n` puts its element. -/
theorem emb_frame (n : Fin 4) (inb : ∀ a, ![0, n.val, 0, 0, 0] a + S1x1x1x96x256.size a ≤ S1x4x1x96x256.size a) (d : Fin 96) (j : Fin 256) :
    ix5 0 n 0 d j = (Rect.unit (s := S1x4x1x96x256) ![0, n.val, 0, 0, 0] S1x1x1x96x256.size inb).emb (ix5 0 0 0 d j) := by
  funext a
  fin_cases a <;> apply Fin.ext <;> simp [Rect.emb, Rect.unit]

/-- A store of another frame does not reach frame `n`. -/
theorem not_mem_frame (c : ℕ) (inb : ∀ a, ![0, c, 0, 0, 0] a + S1x1x1x96x256.size a ≤ S1x4x1x96x256.size a) (n : Fin 4) (d : Fin 96)
    (j : Fin 256) (hn : n.val ≠ c) :
    ix5 0 n 0 d j ∉ (Rect.unit (s := S1x4x1x96x256) ![0, c, 0, 0, 0] S1x1x1x96x256.size inb).set := by
  intro hm
  have h1 := (Rect.mem_set_unit.mp hm) 1
  have hlo : c ≤ n.val := h1.1
  have hhi : n.val < c + 1 := h1.2
  omega

/-- Four stores of 96 columns, the last head's first: each head's columns hold its own store. -/
theorem canon_cols (p : Fin 4 → Vec Ideal S1x128x96 .bf16) (t : Fin 128) (r : Fin 4) (d : Fin 96) :
    View.canon ([⟨r0_13, p 3⟩, ⟨r0_12, p 2⟩, ⟨r0_11, p 1⟩, ⟨r0_10, p 0⟩] : List (View.Piece (Elt Ideal) S1x128x384 .bf16))
      (ix3 0 t (hcol r d)) = p r (ix3 0 t d) := by
  by_cases h3 : r = 3
  · subst h3; rw [emb_cols 288 inb_S1x128x384_S1x128x96_0_0_288 t 3 d rfl]; exact View.canon_cons_emb r0_13 (p 3) _ _
  refine (View.canon_cons_of_not_mem ⟨r0_13, p 3⟩ _ (not_mem_cols 288 inb_S1x128x384_S1x128x96_0_0_288 t r 3 d rfl h3)).trans ?_
  by_cases h2 : r = 2
  · subst h2; rw [emb_cols 192 inb_S1x128x384_S1x128x96_0_0_192 t 2 d rfl]; exact View.canon_cons_emb r0_12 (p 2) _ _
  refine (View.canon_cons_of_not_mem ⟨r0_12, p 2⟩ _ (not_mem_cols 192 inb_S1x128x384_S1x128x96_0_0_192 t r 2 d rfl h2)).trans ?_
  by_cases h1 : r = 1
  · subst h1; rw [emb_cols 96 inb_S1x128x384_S1x128x96_0_0_96 t 1 d rfl]; exact View.canon_cons_emb r0_11 (p 1) _ _
  refine (View.canon_cons_of_not_mem ⟨r0_11, p 1⟩ _ (not_mem_cols 96 inb_S1x128x384_S1x128x96_0_0_96 t r 1 d rfl h1)).trans ?_
  obtain rfl : r = 0 := by omega
  rw [emb_cols 0 inb_S1x128x384_S1x128x96_0_0_0 t 0 d rfl]; exact View.canon_cons_emb r0_10 (p 0) _ _

/-- Four stores of one frame each, the last frame's first: each frame holds its own store. -/
theorem canon_frames (p : Fin 4 → Vec Ideal S1x1x1x96x256 .bf16) (n : Fin 4) (d : Fin 96) (j : Fin 256) :
    View.canon ([⟨r0_9, p 3⟩, ⟨r0_8, p 2⟩, ⟨r0_7, p 1⟩, ⟨r0_6, p 0⟩] : List (View.Piece (Elt Ideal) S1x4x1x96x256 .bf16))
      (ix5 0 n 0 d j) = p n (ix5 0 0 0 d j) := by
  by_cases h3 : n = 3
  · subst h3; rw [emb_frame 3 inb_S1x4x1x96x256_S1x1x1x96x256_0_3_0_0_0 d j]; exact View.canon_cons_emb r0_9 (p 3) _ _
  refine (View.canon_cons_of_not_mem ⟨r0_9, p 3⟩ _
    (not_mem_frame 3 inb_S1x4x1x96x256_S1x1x1x96x256_0_3_0_0_0 n d j fun e => h3 (Fin.ext e))).trans ?_
  by_cases h2 : n = 2
  · subst h2; rw [emb_frame 2 inb_S1x4x1x96x256_S1x1x1x96x256_0_2_0_0_0 d j]; exact View.canon_cons_emb r0_8 (p 2) _ _
  refine (View.canon_cons_of_not_mem ⟨r0_8, p 2⟩ _
    (not_mem_frame 2 inb_S1x4x1x96x256_S1x1x1x96x256_0_2_0_0_0 n d j fun e => h2 (Fin.ext e))).trans ?_
  by_cases h1 : n = 1
  · subst h1; rw [emb_frame 1 inb_S1x4x1x96x256_S1x1x1x96x256_0_1_0_0_0 d j]; exact View.canon_cons_emb r0_7 (p 1) _ _
  refine (View.canon_cons_of_not_mem ⟨r0_7, p 1⟩ _
    (not_mem_frame 1 inb_S1x4x1x96x256_S1x1x1x96x256_0_1_0_0_0 n d j fun e => h1 (Fin.ext e))).trans ?_
  obtain rfl : n = 0 := by omega
  rw [emb_frame 0 inb_S1x4x1x96x256_S1x1x1x96x256_0_0_0_0_0 d j]; exact View.canon_cons_emb r0_6 (p 0) _ _

variable {I : Inputs} {b : Fin 12} {g : Fin 16} {x0 : Vec Ideal S1x128x384 .bf16} {x1 : Vec Ideal S1x4x1x96x256 .fp8e4m3}
  {x2 : Vec Ideal S1x4x1x96x256 .fp8e4m3} {x3 : Vec Ideal S1x128x384 .fp8e5m2} {x4 : Vec Ideal S1x128x384 .bf16}
  {x5 : Vec Ideal S1x128x4 .f32} {x6 : Vec Ideal S1x128x8 .f32} (h : Holds I b g x0 x1 x2 x3 x4 x5 x6)

include h

theorem dq_block (t : Fin 128) (r : Fin 4) (d : Fin 96) : out0_7 x0 x1 x2 x3 x4 x5 x6 (ix3 0 t (hcol r d)) = I.dq b t g r d := by
  refine (canon_cols ![_, _, _, _] t r d).trans ?_
  fin_cases r
  · exact pay54 h t d
  · exact pay55 h t d
  · exact pay56 h t d
  · exact pay57 h t d

theorem dk_block (n : Fin 4) (d : Fin 96) (j : Fin 256) : out0_8 x0 x1 x2 x3 x4 x5 x6 (ix5 0 n 0 d j) = I.dk b n j g d := by
  refine (canon_frames ![_, _, _, _] n d j).trans ?_
  fin_cases n
  · exact pay42 h d j
  · exact pay46 h d j
  · exact pay48 h d j
  · exact pay52 h d j

theorem dv_block (n : Fin 4) (d : Fin 96) (j : Fin 256) : out0_9 x0 x1 x2 x3 x4 x5 x6 (ix5 0 n 0 d j) = I.dv b n j g d := by
  refine (canon_frames ![_, _, _, _] n d j).trans ?_
  fin_cases n
  · exact pay41 h d j
  · exact pay45 h d j
  · exact pay47 h d j
  · exact pay51 h d j

end Cert.KernelIdeal.Block
end
-- ==== Proof.KernelHost.lean ====
/-
  The arrays the kernel's grid reads, as the operations before it make them from the arguments: the transposed keys and
  values, the regrouped log-sum-exp, and one row of per-query numbers (frame index, gradient scale, key scale, value scale).
-/
module

public import proofs.«01_k».proof.Proof.Gen.KernelIdeal.Frame
public import proofs.«01_k».proof.Proof.Model
public import Idealize.ShloMosaic.Lib.StableHlo.ReadAt

@[expose] public section

set_option maxRecDepth 16384

noncomputable section

namespace Cert.KernelIdeal.Host

open Idealize.ShloMosaic Idealize.ShloMosaic.TcCoe
open Cert.KernelIdeal.Gen
open scoped BigOperators

variable (W : Valuation τ sig (Elt Ideal))

/-- Up to the frame index clamped at 0, one per query. -/
abbrev opsA : List (HloOp τ sig (Elt Ideal)) := hostOps0 ++ hostOps0_1 ++ hostOps0_2

/-- The contents before the key scales are taken, … -/
abbrev WA : Valuation τ sig (Elt Ideal) := StableHlo.after opsA W
/-- … after it, … -/
abbrev WB : Valuation τ sig (Elt Ideal) := StableHlo.after hostOps0_3 (WA W)
/-- … after the value scales are taken too, … -/
abbrev WC : Valuation τ sig (Elt Ideal) := StableHlo.after hostOps0_5 (StableHlo.after hostOps0_4 (WB W))
/-- … and when the grid starts. -/
abbrev WD : Valuation τ sig (Elt Ideal) := StableHlo.after hostOps0_6 (WC W)

theorem stages : StableHlo.after (List.flatten [hostOps0, hostOps0_1, hostOps0_2, hostOps0_3, hostOps0_4, hostOps0_5, hostOps0_6]) W = WD W := by
  simp only [List.flatten_cons, List.flatten_nil, List.append_nil, WD, WC, WB, WA, opsA, StableHlo.after_append]

/-- The pass's inputs as the arguments have them, with the scales the program takes. -/
def inputs : Model.Inputs where
  q := (W (Proc.devRef .tc main_arg0) : FVec Ideal S12x128x6144 .bf16)
  k := (W (Proc.devRef .tc main_arg1) : FVec Ideal S12x4x256x16x96 .fp8e4m3)
  v := (W (Proc.devRef .tc main_arg3) : FVec Ideal S12x4x256x16x96 .fp8e4m3)
  dout := (W (Proc.devRef .tc main_arg5) : FVec Ideal S12x128x6144 .fp8e5m2)
  dscale := (W (Proc.devRef .tc main_arg6) : FVec Ideal S12x128 .f32)
  o := (W (Proc.devRef .tc main_arg7) : FVec Ideal S12x128x6144 .bf16)
  lse := (W (Proc.devRef .tc main_arg8) : FVec Ideal S12x64x128 .f32)
  idx := (W (Proc.devRef .tc main_arg9) : IVec S12x128 32)
  ks := (WB W (Proc.devRef .tc main_v9) : FVec Ideal S12x128x16 .f32)
  vs := (WC W (Proc.devRef .tc main_v11) : FVec Ideal S12x128x16 .f32)

/-- The row of per-query arrays that belongs to batch entry `b` and head `g`. -/
abbrev bg (b : Fin 12) (g : Fin 16) : Fin 192 := ⟨b.val * 16 + g.val, by omega⟩

theorem v0 (b : Fin 12) (n : Fin 4) (g : Fin 16) (d : Fin 96) (j : Fin 256) :
    (WD W (Proc.devRef .tc main_v0) : FVec Ideal S12x4x16x96x256 .fp8e4m3) (ix5 b n g d j) = (inputs W).k (ix5 b n j g d) := by
  after_reads_at
  rfl

theorem v1 (b : Fin 12) (n : Fin 4) (g : Fin 16) (d : Fin 96) (j : Fin 256) :
    (WD W (Proc.devRef .tc main_v1) : FVec Ideal S12x4x16x96x256 .fp8e4m3) (ix5 b n g d j) = (inputs W).v (ix5 b n j g d) := by
  after_reads_at
  rfl

theorem bg_div (b : Fin 12) (g : Fin 16) : (b.val * 16 + g.val) / 16 = b.val := by omega
theorem bg_mod (b : Fin 12) (g : Fin 16) : (b.val * 16 + g.val) % 16 = g.val := by omega

theorem v4 (b : Fin 12) (g : Fin 16) (t : Fin 128) (r : Fin 4) :
    (WD W (Proc.devRef .tc main_v4) : FVec Ideal S192x128x4 .f32) (ix3 (bg b g) t r) = (inputs W).lse (ix3 b (Model.hd g r) t) := by
  after_reads_at
  simp only [bg_div, bg_mod]
  rfl

theorem v23_0 (b : Fin 12) (g : Fin 16) (t : Fin 128) :
    (WD W (Proc.devRef .tc main_v23) : FVec Ideal S192x128x8 .f32) (ix3 (bg b g) t 0)
      = ((((inputs W).idx (ix2 b t)).toInt : ℝ) : EReal) := by
  after_reads_at
  simp only [bg_div, bg_mod, StableHlo.upto, List.take_succ_cons, List.take_zero]
  after_reads_at
  rfl

theorem v23_1 (b : Fin 12) (g : Fin 16) (t : Fin 128) :
    (WD W (Proc.devRef .tc main_v23) : FVec Ideal S192x128x8 .f32) (ix3 (bg b g) t 1) = (inputs W).dscale (ix2 b t) := by
  after_reads_at
  simp only [bg_div, bg_mod, StableHlo.upto, List.take_succ_cons, List.take_zero]
  after_reads_at
  rfl

theorem v23_2 (b : Fin 12) (g : Fin 16) (t : Fin 128) :
    (WD W (Proc.devRef .tc main_v23) : FVec Ideal S192x128x8 .f32) (ix3 (bg b g) t 2) = (inputs W).ks (ix3 b t g) := by
  unfold inputs
  dsimp only
  unfold WD WC
  generalize WB W = VB
  after_reads_at
  simp only [bg_div, bg_mod, StableHlo.upto, List.take_succ_cons, List.take_zero]
  after_reads_at

theorem v23_3 (b : Fin 12) (g : Fin 16) (t : Fin 128) :
    (WD W (Proc.devRef .tc main_v23) : FVec Ideal S192x128x8 .f32) (ix3 (bg b g) t 3) = (inputs W).vs (ix3 b t g) := by
  unfold inputs
  dsimp only
  unfold WD
  generalize WC W = VC
  after_reads_at
  simp only [bg_div, bg_mod, StableHlo.upto, List.take_succ_cons, List.take_zero]
  after_reads_at

end Cert.KernelIdeal.Host
end
-- ==== Proof.KernelRun.lean ====
/-
  The kernel's run, read: each grid point's blocks lie at its batch entry and key/value head, so the blocks written together
  are the whole gradients.
-/
module

public import proofs.«01_k».proof.Proof.KernelOut
public import proofs.«01_k».proof.Proof.KernelHost
public import Idealize.ShloMosaic.Lib.Pipeline.Value
public import Idealize.ShloMosaic.Lib.StableHlo.ReadAt

@[expose] public section

set_option maxRecDepth 16384

noncomputable section

namespace Cert.KernelIdeal.Run

open Idealize.ShloMosaic Idealize.ShloMosaic.TcCoe Idealize.SL.Sem
open Idealize.ShloMosaic.Pipeline (Dat)
open Cert.KernelIdeal.Gen Cert.Model Cert.KernelIdeal.Block
open scoped BigOperators

variable (m : (ℓ : Loc nD τ sig) → Buf (Elt Ideal) ℓ) (ρ : Dev nD → PrngReg) (c : Dev nD)

/-- The pass's inputs on device `c`. -/
abbrev I : Inputs := Host.inputs fun b => m (c, b)

/-- The batch entry of point `t`. -/
abbrev pb (t : Fin cfg0.N) : Fin 12 := ⟨t.val / 16, by have := t.isLt; have e : cfg0.N = 192 := rfl; omega⟩

/-- The key/value head of point `t`. -/
abbrev pg (t : Fin cfg0.N) : Fin 16 := ⟨t.val % 16, by omega⟩

/-- The point of batch entry `b` and head `g`. -/
abbrev pt (b : Fin 12) (g : Fin 16) : Fin cfg0.N := ⟨b.val * 16 + g.val, by have e : cfg0.N = 192 := rfl; omega⟩

/-! ## What the grid's input arrays hold -/

theorem V_eq (b : Ref sig .tc) : V m c b = Host.WD (fun b => m (c, b)) (Proc.devRef .tc b) :=
  congrFun (Host.stages fun b => m (c, b)) _

theorem arg0 : (V m c main_arg0 : FVec Ideal S12x128x6144 .bf16) = (I m c).q := by
  rw [V_eq]
  after_reads_simp
  rfl

theorem arg5 : (V m c main_arg5 : FVec Ideal S12x128x6144 .fp8e5m2) = (I m c).dout := by
  rw [V_eq]
  after_reads_simp
  rfl

theorem arg7 : (V m c main_arg7 : FVec Ideal S12x128x6144 .bf16) = (I m c).o := by
  rw [V_eq]
  after_reads_simp
  rfl

/-! ## Where each point's blocks lie -/

/-- The block number of a window of 384 columns. -/
theorem index_cols : (∀ t : Fin grid0.N, win0_0.index t 0 = t.val / 16 ∧ win0_0.index t 1 = 0 ∧ win0_0.index t 2 = t.val % 16)
    ∧ (∀ t : Fin grid0.N, win0_3.index t 0 = t.val / 16 ∧ win0_3.index t 1 = 0 ∧ win0_3.index t 2 = t.val % 16)
    ∧ (∀ t : Fin grid0.N, win0_4.index t 0 = t.val / 16 ∧ win0_4.index t 1 = 0 ∧ win0_4.index t 2 = t.val % 16)
    ∧ (∀ t : Fin grid0.N, win0_7.index t 0 = t.val / 16 ∧ win0_7.index t 1 = 0 ∧ win0_7.index t 2 = t.val % 16) := by
  decide +kernel

/-- The block number of a window of one head of every frame. -/
theorem index_frames :
    (∀ t : Fin grid0.N, win0_1.index t 0 = t.val / 16 ∧ win0_1.index t 1 = 0 ∧ win0_1.index t 2 = t.val % 16
      ∧ win0_1.index t 3 = 0 ∧ win0_1.index t 4 = 0)
    ∧ (∀ t : Fin grid0.N, win0_2.index t 0 = t.val / 16 ∧ win0_2.index t 1 = 0 ∧ win0_2.index t 2 = t.val % 16
      ∧ win0_2.index t 3 = 0 ∧ win0_2.index t 4 = 0)
    ∧ (∀ t : Fin grid0.N, win0_8.index t 0 = t.val / 16 ∧ win0_8.index t 1 = 0 ∧ win0_8.index t 2 = t.val % 16
      ∧ win0_8.index t 3 = 0 ∧ win0_8.index t 4 = 0)
    ∧ (∀ t : Fin grid0.N, win0_9.index t 0 = t.val / 16 ∧ win0_9.index t 1 = 0 ∧ win0_9.index t 2 = t.val % 16
      ∧ win0_9.index t 3 = 0 ∧ win0_9.index t 4 = 0) := by
  decide +kernel

/-- The block number of a window of one row of per-query numbers. -/
theorem index_rows : (∀ t : Fin grid0.N, win0_5.index t 0 = t.val ∧ win0_5.index t 1 = 0 ∧ win0_5.index t 2 = 0)
    ∧ (∀ t : Fin grid0.N, win0_6.index t 0 = t.val ∧ win0_6.index t 1 = 0 ∧ win0_6.index t 2 = 0) := by
  decide +kernel

/-- A block of 384 columns numbered by its batch entry and head starts at that entry and the head's first column. -/
theorem at_cols {k : Fin 3 → ℕ} {b : Fin 12} {g : Fin 16} (hk : k 0 = b.val ∧ k 1 = 0 ∧ k 2 = g.val) (u : Fin 128) (r : Fin 4)
    (d : Fin 96) {i : S12x128x6144.Idx} (h0 : (i 0).val = k 0 * 1 + 1 * 0) (h1 : (i 1).val = k 1 * 128 + 1 * u.val)
    (h2 : (i 2).val = k 2 * 384 + 1 * (r.val * 96 + d.val)) : i = ix3 b u (col g r d) := by
  obtain ⟨k0, k1, k2⟩ := hk
  rw [k0] at h0; rw [k1] at h1; rw [k2] at h2
  funext a
  fin_cases a <;> apply Fin.ext
  · exact h0.trans (by simp)
  · exact h1.trans (by simp)
  · exact h2.trans (by show _ = g.val * 384 + r.val * 96 + d.val; omega)

/-- A block of one head of every frame numbered by its batch entry and head. -/
theorem at_frames {k : Fin 5 → ℕ} {b : Fin 12} {g : Fin 16} (hk : k 0 = b.val ∧ k 1 = 0 ∧ k 2 = g.val ∧ k 3 = 0 ∧ k 4 = 0)
    (n : Fin 4) (d : Fin 96) (j : Fin 256) {i : S12x4x16x96x256.Idx}
    (h0 : (i 0).val = k 0 * 1 + 1 * 0) (h1 : (i 1).val = k 1 * 4 + 1 * n.val) (h2 : (i 2).val = k 2 * 1 + 1 * 0)
    (h3 : (i 3).val = k 3 * 96 + 1 * d.val) (h4 : (i 4).val = k 4 * 256 + 1 * j.val) : i = ix5 b n g d j := by
  obtain ⟨k0, k1, k2, k3, k4⟩ := hk
  rw [k0] at h0; rw [k1] at h1; rw [k2] at h2; rw [k3] at h3; rw [k4] at h4
  funext a
  fin_cases a <;> apply Fin.ext
  · exact h0.trans (by simp)
  · exact h1.trans (by simp)
  · exact h2.trans (by simp)
  · exact h3.trans (by simp)
  · exact h4.trans (by simp)

/-- The row of per-query numbers of point `t`. -/
theorem row_bg (t : Fin cfg0.N) : t.val = (pb t).val * 16 + (pg t).val := by
  show t.val = t.val / 16 * 16 + t.val % 16
  omega

theorem emb0 (t : Fin cfg0.N) (u : Fin 128) (r : Fin 4) (d : Fin 96) :
    (win0_0.blk t).view.emb (ix3 0 u (hcol r d)) = ix3 (pb t) u (col (pg t) r d) :=
  at_cols (k := win0_0.index t) (index_cols.1 t) u r d rfl rfl rfl

theorem emb3 (t : Fin cfg0.N) (u : Fin 128) (r : Fin 4) (d : Fin 96) :
    (win0_3.blk t).view.emb (ix3 0 u (hcol r d)) = ix3 (pb t) u (col (pg t) r d) :=
  at_cols (k := win0_3.index t) (index_cols.2.1 t) u r d rfl rfl rfl

theorem emb4 (t : Fin cfg0.N) (u : Fin 128) (r : Fin 4) (d : Fin 96) :
    (win0_4.blk t).view.emb (ix3 0 u (hcol r d)) = ix3 (pb t) u (col (pg t) r d) :=
  at_cols (k := win0_4.index t) (index_cols.2.2.1 t) u r d rfl rfl rfl

theorem emb7 (t : Fin cfg0.N) (u : Fin 128) (r : Fin 4) (d : Fin 96) :
    (win0_7.blk t).view.emb (ix3 0 u (hcol r d)) = ix3 (pb t) u (col (pg t) r d) :=
  at_cols (k := win0_7.index t) (index_cols.2.2.2 t) u r d rfl rfl rfl

theorem emb1 (t : Fin cfg0.N) (n : Fin 4) (d : Fin 96) (j : Fin 256) :
    (win0_1.blk t).view.emb (ix5 0 n 0 d j) = ix5 (pb t) n (pg t) d j :=
  at_frames (k := win0_1.index t) (index_frames.1 t) n d j rfl rfl rfl rfl rfl

theorem emb2 (t : Fin cfg0.N) (n : Fin 4) (d : Fin 96) (j : Fin 256) :
    (win0_2.blk t).view.emb (ix5 0 n 0 d j) = ix5 (pb t) n (pg t) d j :=
  at_frames (k := win0_2.index t) (index_frames.2.1 t) n d j rfl rfl rfl rfl rfl

theorem emb8 (t : Fin cfg0.N) (n : Fin 4) (d : Fin 96) (j : Fin 256) :
    (win0_8.blk t).view.emb (ix5 0 n 0 d j) = ix5 (pb t) n (pg t) d j :=
  at_frames (k := win0_8.index t) (index_frames.2.2.1 t) n d j rfl rfl rfl rfl rfl

theorem emb9 (t : Fin cfg0.N) (n : Fin 4) (d : Fin 96) (j : Fin 256) :
    (win0_9.blk t).view.emb (ix5 0 n 0 d j) = ix5 (pb t) n (pg t) d j :=
  at_frames (k := win0_9.index t) (index_frames.2.2.2 t) n d j rfl rfl rfl rfl rfl

theorem emb5 (t : Fin cfg0.N) (u : Fin 128) (r : Fin 4) :
    (win0_5.blk t).view.emb (ix3 0 u r) = ix3 (Host.bg (pb t) (pg t)) u r := by
  obtain ⟨e0, e1, e2⟩ := index_rows.1 t
  funext a
  fin_cases a <;> apply Fin.ext
  · show win0_5.index t 0 * 1 + 1 * 0 = (pb t).val * 16 + (pg t).val
    rw [e0, ← row_bg]; omega
  · show win0_5.index t 1 * 128 + 1 * u.val = u.val
    rw [e1]; omega
  · show win0_5.index t 2 * 4 + 1 * r.val = r.val
    rw [e2]; omega

theorem emb6 (t : Fin cfg0.N) (u : Fin 128) (k : Fin 8) :
    (win0_6.blk t).view.emb (ix3 0 u k) = ix3 (Host.bg (pb t) (pg t)) u k := by
  obtain ⟨e0, e1, e2⟩ := index_rows.2 t
  funext a
  fin_cases a <;> apply Fin.ext
  · show win0_6.index t 0 * 1 + 1 * 0 = (pb t).val * 16 + (pg t).val
    rw [e0, ← row_bg]; omega
  · show win0_6.index t 1 * 128 + 1 * u.val = u.val
    rw [e1]; omega
  · show win0_6.index t 2 * 8 + 1 * k.val = k.val
    rw [e2]; omega

/-! ### What the blocks a point reads hold -/

theorem blk_q (t : Fin cfg0.N) (u : Fin 128) (r : Fin 4) (d : Fin 96) :
    (iblk m c 0 t : FVec Ideal S1x128x384 .bf16) (ix3 0 u (hcol r d)) = (I m c).q (ix3 (pb t) u (col (pg t) r d)) := by
  show V m c main_arg0 ((win0_0.blk t).view.emb (ix3 0 u (hcol r d))) = _
  rw [emb0]; exact congrFun (arg0 m c) _

theorem blk_k (t : Fin cfg0.N) (n : Fin 4) (d : Fin 96) (j : Fin 256) :
    (iblk m c 1 t : FVec Ideal S1x4x1x96x256 .bf16) (ix5 0 n 0 d j) = (I m c).k (ix5 (pb t) n j (pg t) d) := by
  show V m c main_v0 ((win0_1.blk t).view.emb (ix5 0 n 0 d j)) = _
  rw [emb1, V_eq]; exact Host.v0 _ _ _ _ _ _

theorem blk_v (t : Fin cfg0.N) (n : Fin 4) (d : Fin 96) (j : Fin 256) :
    (iblk m c 2 t : FVec Ideal S1x4x1x96x256 .bf16) (ix5 0 n 0 d j) = (I m c).v (ix5 (pb t) n j (pg t) d) := by
  show V m c main_v1 ((win0_2.blk t).view.emb (ix5 0 n 0 d j)) = _
  rw [emb2, V_eq]; exact Host.v1 _ _ _ _ _ _

theorem blk_dout (t : Fin cfg0.N) (u : Fin 128) (r : Fin 4) (d : Fin 96) :
    (iblk m c 3 t : FVec Ideal S1x128x384 .bf16) (ix3 0 u (hcol r d)) = (I m c).dout (ix3 (pb t) u (col (pg t) r d)) := by
  show V m c main_arg5 ((win0_3.blk t).view.emb (ix3 0 u (hcol r d))) = _
  rw [emb3]; exact congrFun (arg5 m c) _

theorem blk_o (t : Fin cfg0.N) (u : Fin 128) (r : Fin 4) (d : Fin 96) :
    (iblk m c 4 t : FVec Ideal S1x128x384 .bf16) (ix3 0 u (hcol r d)) = (I m c).o (ix3 (pb t) u (col (pg t) r d)) := by
  show V m c main_arg7 ((win0_4.blk t).view.emb (ix3 0 u (hcol r d))) = _
  rw [emb4]; exact congrFun (arg7 m c) _

theorem blk_lse (t : Fin cfg0.N) (u : Fin 128) (r : Fin 4) :
    (iblk m c 5 t : FVec Ideal S1x128x4 .f32) (ix3 0 u r) = (I m c).lse (ix3 (pb t) (hd (pg t) r) u) := by
  show V m c main_v4 ((win0_5.blk t).view.emb (ix3 0 u r)) = _
  rw [emb5, V_eq]; exact Host.v4 _ _ _ _ _

theorem blk_rows (t : Fin cfg0.N) (u : Fin 128) (k : Fin 8) : (iblk m c 6 t : FVec Ideal S1x128x8 .f32) (ix3 0 u k)
    = (Host.WD (fun b => m (c, b)) (Proc.devRef .tc main_v23) : FVec Ideal S192x128x8 .f32) (ix3 (Host.bg (pb t) (pg t)) u k) := by
  show V m c main_v23 ((win0_6.blk t).view.emb (ix3 0 u k)) = _
  rw [emb6, V_eq]

/-- The blocks a point reads hold the inputs' part of its batch entry and head. -/
theorem holds (t : Fin cfg0.N) : Holds (I m c) (pb t) (pg t) (iblk m c 0 t) (iblk m c 1 t) (iblk m c 2 t) (iblk m c 3 t)
    (iblk m c 4 t) (iblk m c 5 t) (iblk m c 6 t) where
  q := blk_q m c t
  k := blk_k m c t
  v := blk_v m c t
  dout := blk_dout m c t
  o := blk_o m c t
  lse := blk_lse m c t
  idx u := (blk_rows m c t u 0).trans (Host.v23_0 _ _ _ _)
  dscale u := (blk_rows m c t u 1).trans (Host.v23_1 _ _ _ _)
  ks u := (blk_rows m c t u 2).trans (Host.v23_2 _ _ _ _)
  vs u := (blk_rows m c t u 3).trans (Host.v23_3 _ _ _ _)

/-! ## The arrays the grid writes -/

/-- The keys' gradient with the key positions last, as the grid writes it. -/
def dkt (i : S12x4x16x96x256.Idx) : EReal := (I m c).dk (i 0) (i 1) (i 4) (i 2) (i 3)

/-- The values' gradient with the key positions last. -/
def dvt (i : S12x4x16x96x256.Idx) : EReal := (I m c).dv (i 0) (i 1) (i 4) (i 2) (i 3)

/-- A column of a block is a head's column. -/
theorem col_split (i : S1x128x384.Idx) : ∃ (u : Fin 128) (r : Fin 4) (d : Fin 96), i = ix3 0 u (hcol r d) := by
  have h : (i 2).val < 384 := (i 2).isLt
  refine ⟨i 1, ⟨(i 2).val / 96, by omega⟩, ⟨(i 2).val % 96, by omega⟩, ?_⟩
  funext a
  fin_cases a <;> apply Fin.ext
  · have h : (i 0).val < 1 := (i 0).isLt
    show (i 0).val = 0
    omega
  · rfl
  · show (i 2).val = (i 2).val / 96 * 96 + (i 2).val % 96
    omega

theorem frame_split (i : S1x4x1x96x256.Idx) : ∃ (n : Fin 4) (d : Fin 96) (j : Fin 256), i = ix5 0 n 0 d j := by
  refine ⟨i 1, i 3, i 4, ?_⟩
  funext a
  fin_cases a <;> apply Fin.ext
  · have h : (i 0).val < 1 := (i 0).isLt
    show (i 0).val = 0
    omega
  · rfl
  · have h : (i 2).val < 1 := (i 2).isLt
    show (i 2).val = 0
    omega
  · rfl
  · rfl

theorem block7 (t : Fin cfg0.N) (i : S1x128x384.Idx) : @Eq EReal (out0_7 (iblk m c 0 t) (iblk m c 1 t) (iblk m c 2 t) (iblk m c 3 t)
    (iblk m c 4 t) (iblk m c 5 t) (iblk m c 6 t) i) ((I m c).dqArr ((win0_7.blk t).view.emb i)) := by
  obtain ⟨u, r, d, rfl⟩ := col_split i
  refine (dq_block (holds m c t) u r d).trans ?_
  rw [emb7, Inputs.dqArr_col]

theorem flushed7 (t : Fin cfg0.N) : (dats m 0 c).flushed 7 t
    = (win0_7.blk t).view.read (Elt Ideal) ((I m c).dqArr : Buf (Elt Ideal) ((c : Thread nD τ).loc main_v24_0)) := by
  show (cfg0.win 7).cut (grid0.coords t) ((dats m 0 c).after 7 t) = _
  rw [after0_7]
  exact funext (block7 m c t)

theorem block8 (t : Fin cfg0.N) (i : S1x4x1x96x256.Idx) : @Eq EReal (out0_8 (iblk m c 0 t) (iblk m c 1 t) (iblk m c 2 t) (iblk m c 3 t)
    (iblk m c 4 t) (iblk m c 5 t) (iblk m c 6 t) i) (dkt m c ((win0_8.blk t).view.emb i)) := by
  obtain ⟨n, d, j, rfl⟩ := frame_split i
  refine (dk_block (holds m c t) n d j).trans ?_
  rw [emb8]
  rfl

theorem flushed8 (t : Fin cfg0.N) : (dats m 0 c).flushed 8 t
    = (win0_8.blk t).view.read (Elt Ideal) (dkt m c : Buf (Elt Ideal) ((c : Thread nD τ).loc main_v24_1)) := by
  show (cfg0.win 8).cut (grid0.coords t) ((dats m 0 c).after 8 t) = _
  rw [after0_8]
  exact funext (block8 m c t)

theorem block9 (t : Fin cfg0.N) (i : S1x4x1x96x256.Idx) : @Eq EReal (out0_9 (iblk m c 0 t) (iblk m c 1 t) (iblk m c 2 t) (iblk m c 3 t)
    (iblk m c 4 t) (iblk m c 5 t) (iblk m c 6 t) i) (dvt m c ((win0_9.blk t).view.emb i)) := by
  obtain ⟨n, d, j, rfl⟩ := frame_split i
  refine (dv_block (holds m c t) n d j).trans ?_
  rw [emb9]
  rfl

theorem flushed9 (t : Fin cfg0.N) : (dats m 0 c).flushed 9 t
    = (win0_9.blk t).view.read (Elt Ideal) (dvt m c : Buf (Elt Ideal) ((c : Thread nD τ).loc main_v24_2)) := by
  show (cfg0.win 9).cut (grid0.coords t) ((dats m 0 c).after 9 t) = _
  rw [after0_9]
  exact funext (block9 m c t)

theorem pb_pt (b : Fin 12) (g : Fin 16) : pb (pt b g) = b := Fin.ext (by show (b.val * 16 + g.val) / 16 = b.val; omega)
theorem pg_pt (b : Fin 12) (g : Fin 16) : pg (pt b g) = g := Fin.ext (by show (b.val * 16 + g.val) % 16 = g.val; omega)

/-- Every element of the written arrays lies in the block of the point of its batch entry and head. -/
theorem cover7 (i : S12x128x6144.Idx) : ∃ t : Fin cfg0.N, i ∈ (win0_7.blk t).view.set := by
  have h2 : (i 2).val < 6144 := (i 2).isLt
  let b : Fin 12 := i 0
  let u : Fin 128 := i 1
  let g : Fin 16 := ⟨(i 2).val / 384, by omega⟩
  let r : Fin 4 := ⟨(i 2).val / 96 % 4, by omega⟩
  let d : Fin 96 := ⟨(i 2).val % 96, by omega⟩
  have e := emb7 (pt b g) u r d
  rw [pb_pt, pg_pt] at e
  have hi : i = ix3 b u (col g r d) := by
    funext a
    fin_cases a
    · rfl
    · rfl
    · apply Fin.ext
      show (i 2).val = (i 2).val / 384 * 384 + (i 2).val / 96 % 4 * 96 + (i 2).val % 96
      omega
  exact ⟨pt b g, by rw [hi, ← e]; exact View.emb_mem_set _ _⟩

theorem ix_frames (i : S12x4x16x96x256.Idx) : i = ix5 (i 0) (i 1) (i 2) (i 3) (i 4) := by
  funext a
  fin_cases a <;> rfl

theorem cover8 (i : S12x4x16x96x256.Idx) : ∃ t : Fin cfg0.N, i ∈ (win0_8.blk t).view.set := by
  let b : Fin 12 := i 0
  let g : Fin 16 := i 2
  have e := emb8 (pt b g) (i 1) (i 3) (i 4)
  rw [pb_pt, pg_pt] at e
  exact ⟨pt b g, by rw [ix_frames i, show ix5 (i 0) (i 1) (i 2) (i 3) (i 4) = _ from e.symm]; exact View.emb_mem_set _ _⟩

theorem cover9 (i : S12x4x16x96x256.Idx) : ∃ t : Fin cfg0.N, i ∈ (win0_9.blk t).view.set := by
  let b : Fin 12 := i 0
  let g : Fin 16 := i 2
  have e := emb9 (pt b g) (i 1) (i 3) (i 4)
  rw [pb_pt, pg_pt] at e
  exact ⟨pt b g, by rw [ix_frames i, show ix5 (i 0) (i 1) (i 2) (i 3) (i 4) = _ from e.symm]; exact View.emb_mem_set _ _⟩

theorem final7 : (dats m 0 c).arrAt 7 cfg0.N = (I m c).dqArr :=
  (dats m 0 c).arrAt_eq_of_cover 7 _ (fun t _ => flushed7 m c t) fun i => (cover7 i).imp fun t h => ⟨flush0_7 t, h⟩

theorem final8 : (dats m 0 c).arrAt 8 cfg0.N = dkt m c :=
  (dats m 0 c).arrAt_eq_of_cover 8 _ (fun t _ => flushed8 m c t) fun i => (cover8 i).imp fun t h => ⟨flush0_8 t, h⟩

theorem final9 : (dats m 0 c).arrAt 9 cfg0.N = dvt m c :=
  (dats m 0 c).arrAt_eq_of_cover 9 _ (fun t _ => flushed9 m c t) fun i => (cover9 i).imp fun t h => ⟨flush0_9 t, h⟩

/-! ## The results -/

/-- After the grid the keys' and the values' gradients are moved to the arguments' order. -/
theorem tail25 (W : Valuation τ sig (Elt Ideal)) (b : Fin 12) (n : Fin 4) (j : Fin 256) (g : Fin 16) (d : Fin 96) :
    (StableHlo.after hostOps1 W (Proc.devRef .tc main_v25) : FVec Ideal S12x4x256x16x96 .bf16) (ix5 b n j g d)
      = (W (Proc.devRef .tc main_v24_1) : FVec Ideal S12x4x16x96x256 .bf16) (ix5 b n g d j) := by
  after_reads_at

theorem tail26 (W : Valuation τ sig (Elt Ideal)) (b : Fin 12) (n : Fin 4) (j : Fin 256) (g : Fin 16) (d : Fin 96) :
    (StableHlo.after hostOps1 W (Proc.devRef .tc main_v26) : FVec Ideal S12x4x256x16x96 .bf16) (ix5 b n j g d)
      = (W (Proc.devRef .tc main_v24_2) : FVec Ideal S12x4x16x96x256 .bf16) (ix5 b n g d j) := by
  after_reads_at

theorem ix_keys (i : S12x4x256x16x96.Idx) :
    ∃ (b : Fin 12) (n : Fin 4) (j : Fin 256) (g : Fin 16) (d : Fin 96), i = ix5 b n j g d :=
  ⟨i 0, i 1, i 2, i 3, i 4, by funext a; fin_cases a <;> rfl⟩

theorem end25 : Pipeline.afterTail₀ cfgs (dats m) 0 (V0 m) [hostOps1] c main_v25 = (I m c).dkArr := by
  refine funext fun i => ?_
  obtain ⟨b, n, j, g, d, rfl⟩ := ix_keys i
  refine (tail25 _ b n j g d).trans ?_
  exact congrFun ((Pipeline.withArrays_arr spec0 winFacts0.arr_inj c (V0 m c) (fun w => (dats m 0 c).arrAt w cfg0.N) 8).trans (final8 m c)) (ix5 b n g d j)

theorem end26 : Pipeline.afterTail₀ cfgs (dats m) 0 (V0 m) [hostOps1] c main_v26 = (I m c).dvArr := by
  refine funext fun i => ?_
  obtain ⟨b, n, j, g, d, rfl⟩ := ix_keys i
  refine (tail26 _ b n j g d).trans ?_
  exact congrFun ((Pipeline.withArrays_arr spec0 winFacts0.arr_inj c (V0 m c) (fun w => (dats m 0 c).arrAt w cfg0.N) 9).trans (final9 m c)) (ix5 b n g d j)

/-- The kernel returns the three gradients of its inputs. -/
theorem results : θ_run defs (onTc (τ := τ) (main (F := Ideal))) ⟨m, fun _ => 0, ρ⟩ (fun r => ∀ c : Dev nD,
    r.2.mem ((c.tc : Thread nD τ).loc main_v24_0) = (I m c).dqArr
    ∧ r.2.mem ((c.tc : Thread nD τ).loc main_v25) = (I m c).dkArr
    ∧ r.2.mem ((c.tc : Thread nD τ).loc main_v26) = (I m c).dvArr) :=
  (θ_run defs _ _).mono (fun _ h c => ⟨((h c).1 7).trans (final7 m c),
      ((h c).2 main_v25 (Pipeline.mem_restRefs_of main_v25 (by decide) (by decide))).trans (end25 m c),
      ((h c).2 main_v26 (Pipeline.mem_restRefs_of main_v26 (by decide) (by decide))).trans (end26 m c)⟩)
    (run_main m ρ)

end Cert.KernelIdeal.Run
end
-- ==== Proof.RefTail.lean ====
/-
  What the reference's operations after its one on-device call compute, over any contents `W` they start from: each
  result read at an index is the backward pass of Model.lean.
-/
module

public import proofs.«01_k».proof.Proof.Gen.ReferenceIdeal.Frame
public import proofs.«01_k».proof.Proof.Model
public import Idealize.ShloMosaic.Lib.StableHlo.ReadAt

@[expose] public section

set_option maxRecDepth 16384

noncomputable section

namespace Cert.ReferenceIdeal.Tail

open Idealize.ShloMosaic Idealize.ShloMosaic.TcCoe
open Cert.ReferenceIdeal.Gen
open scoped BigOperators

/-- Up to the frame index clamped at 0, one per query. -/
abbrev opsA : List (HloOp τ sig (Elt Ideal)) :=
  hostOps1 ++ hostOps1_1 ++ hostOps1_2 ++ hostOps1_3 ++ hostOps1_4 ++ hostOps1_5 ++ hostOps1_6
/-- The rest, once the two scales are taken. -/
abbrev opsD : List (HloOp τ sig (Elt Ideal)) := hostOps1_10 ++ hostOps1_11 ++ hostOps1_12 ++ hostOps1_13 ++ hostOps1_14

variable (W : Valuation τ sig (Elt Ideal))

/-- The contents before the key scales are taken, … -/
abbrev WA : Valuation τ sig (Elt Ideal) := StableHlo.after opsA W
/-- … after it, … -/
abbrev WB : Valuation τ sig (Elt Ideal) := StableHlo.after hostOps1_7 (WA W)
/-- … after the value scales are taken too. -/
abbrev WC : Valuation τ sig (Elt Ideal) := StableHlo.after hostOps1_9 (StableHlo.after hostOps1_8 (WB W))

/-- The pass's inputs as `W` has them. -/
def inputs : Model.Inputs where
  q := (W (Proc.devRef .tc main_arg0) : FVec Ideal S12x128x6144 .bf16)
  k := (W (Proc.devRef .tc main_v0_0) : FVec Ideal S12x4x256x16x96 .bf16)
  v := (W (Proc.devRef .tc main_v0_1) : FVec Ideal S12x4x256x16x96 .bf16)
  dout := (W (Proc.devRef .tc main_v0_3) : FVec Ideal S12x128x6144 .f32)
  dscale := (W (Proc.devRef .tc main_arg6) : FVec Ideal S12x128 .f32)
  o := (W (Proc.devRef .tc main_arg7) : FVec Ideal S12x128x6144 .bf16)
  lse := (W (Proc.devRef .tc main_arg8) : FVec Ideal S12x64x128 .f32)
  idx := (W (Proc.devRef .tc main_arg9) : IVec S12x128 32)
  ks := (WB W (Proc.devRef .tc main_v18) : FVec Ideal S12x128x16 .f32)
  vs := (WC W (Proc.devRef .tc main_v22) : FVec Ideal S12x128x16 .f32)

/-! ### Up to the scales -/

set_option maxHeartbeats 1000000 in
theorem v11 (b : Fin 12) (n : Fin 4) (t : Fin 128) (g : Fin 16) (r : Fin 4) (d : Fin 96) :
    (WC W (Proc.devRef .tc main_v11) : FVec Ideal S12x4x128x16x4x96 .bf16) (ix6 b n t g r d) = (inputs W).qn b n t g r d := by
  after_reads_at
  rfl

set_option maxHeartbeats 1000000 in
theorem v13 (hd : (W (Proc.devRef .tc main_v0_2) : FVec Ideal S12x128x6144 .bf16)
      = (W (Proc.devRef .tc main_v0_3) : FVec Ideal S12x128x6144 .f32))
    (b : Fin 12) (n : Fin 4) (t : Fin 128) (g : Fin 16) (r : Fin 4) (d : Fin 96) :
    (WC W (Proc.devRef .tc main_v13) : FVec Ideal S12x4x128x16x4x96 .bf16) (ix6 b n t g r d) = (inputs W).don b n t g r d := by
  unfold Model.Inputs.don inputs
  dsimp only
  rw [← hd]
  after_reads_at
  rfl

theorem v8 (b : Fin 12) (n : Fin 4) (t : Fin 128) :
    (WC W (Proc.devRef .tc main_v8) : IVec S12x4x128 1) (ix3 b n t)
      = IntOp.cmpi .eq ((inputs W).idx (ix2 b t)) (BitVec.ofNat 32 n) := by
  after_reads_at
  rfl

theorem v20 (b : Fin 12) (g : Fin 16) (t : Fin 128) :
    (WC W (Proc.devRef .tc main_v20) : FVec Ideal S12x16x1x128x1 .f32) (ix5 b g 0 t 0) = (inputs W).ks (ix3 b t g) := by
  show _ = (WB W (Proc.devRef .tc main_v18) : FVec Ideal S12x128x16 .f32) (ix3 b t g)
  unfold WC
  generalize WB W = W'
  after_reads_at

theorem v22 (b : Fin 12) (t : Fin 128) (g : Fin 16) :
    (WC W (Proc.devRef .tc main_v22) : FVec Ideal S12x128x16 .f32) (ix3 b t g) = (inputs W).vs (ix3 b t g) := rfl

/-! ### The rest -/

/-- Contents `V` from which the last stretch starts, for the pass's inputs `I`. -/
structure Ready (V : Valuation τ sig (Elt Ideal)) (I : Model.Inputs) : Prop where
  kb : (V (Proc.devRef .tc main_v0_0) : FVec Ideal S12x4x256x16x96 .bf16) = I.k
  vb : (V (Proc.devRef .tc main_v0_1) : FVec Ideal S12x4x256x16x96 .bf16) = I.v
  dof : (V (Proc.devRef .tc main_v0_3) : FVec Ideal S12x128x6144 .f32) = I.dout
  dscale : (V (Proc.devRef .tc main_arg6) : FVec Ideal S12x128 .f32) = I.dscale
  o : (V (Proc.devRef .tc main_arg7) : FVec Ideal S12x128x6144 .bf16) = I.o
  lse : (V (Proc.devRef .tc main_arg8) : FVec Ideal S12x64x128 .f32) = I.lse
  idx : (V (Proc.devRef .tc main_arg9) : IVec S12x128 32) = I.idx
  v8 (b : Fin 12) (n : Fin 4) (t : Fin 128) : (V (Proc.devRef .tc main_v8) : IVec S12x4x128 1) (ix3 b n t)
    = IntOp.cmpi .eq (I.idx (ix2 b t)) (BitVec.ofNat 32 n)
  v11 (b : Fin 12) (n : Fin 4) (t : Fin 128) (g : Fin 16) (r : Fin 4) (d : Fin 96) :
    (V (Proc.devRef .tc main_v11) : FVec Ideal S12x4x128x16x4x96 .bf16) (ix6 b n t g r d) = I.qn b n t g r d
  v13 (b : Fin 12) (n : Fin 4) (t : Fin 128) (g : Fin 16) (r : Fin 4) (d : Fin 96) :
    (V (Proc.devRef .tc main_v13) : FVec Ideal S12x4x128x16x4x96 .bf16) (ix6 b n t g r d) = I.don b n t g r d
  v20 (b : Fin 12) (g : Fin 16) (t : Fin 128) :
    (V (Proc.devRef .tc main_v20) : FVec Ideal S12x16x1x128x1 .f32) (ix5 b g 0 t 0) = I.ks (ix3 b t g)
  v22 (b : Fin 12) (t : Fin 128) (g : Fin 16) :
    (V (Proc.devRef .tc main_v22) : FVec Ideal S12x128x16 .f32) (ix3 b t g) = I.vs (ix3 b t g)

set_option maxHeartbeats 1000000 in
theorem ready (hd : (W (Proc.devRef .tc main_v0_2) : FVec Ideal S12x128x6144 .bf16)
      = (W (Proc.devRef .tc main_v0_3) : FVec Ideal S12x128x6144 .f32)) : Ready (WC W) (inputs W) where
  kb := by after_reads_simp; rfl
  vb := by after_reads_simp; rfl
  dof := by after_reads_simp; rfl
  dscale := by after_reads_simp; rfl
  o := by after_reads_simp; rfl
  lse := by after_reads_simp; rfl
  idx := by after_reads_simp; rfl
  v8 := v8 W
  v11 := v11 W
  v13 := v13 W hd
  v20 := v20 W
  v22 := v22 W

/-- The programs' spelling of the 0 that replaces a masked element. -/
theorem zero_word : constant (F := Ideal) S_ FTy.f32 0#32 ix0 = (0 : EReal) := by
  pointwise

variable {V : Valuation τ sig (Elt Ideal)} {I : Model.Inputs}

set_option maxHeartbeats 4000000 in
/-- The third result is the gradient of the values. -/
theorem v64 (h : Ready V I) (b : Fin 12) (n : Fin 4) (j : Fin 256) (g : Fin 16) (d : Fin 96) :
    (StableHlo.after opsD V (Proc.devRef .tc main_v64) : FVec Ideal S12x4x256x16x96 .bf16) (ix5 b n j g d) = I.dv b n j g d := by
  after_reads_at
  simp only [h.kb, h.vb, h.dof, h.dscale, h.o, h.lse, h.idx, h.v8, h.v11, h.v13, h.v20, h.v22, id_eq, zero_word]
  rfl

set_option maxHeartbeats 4000000 in
/-- The second result is the gradient of the keys. -/
theorem v70 (h : Ready V I) (b : Fin 12) (n : Fin 4) (j : Fin 256) (g : Fin 16) (d : Fin 96) :
    (StableHlo.after opsD V (Proc.devRef .tc main_v70) : FVec Ideal S12x4x256x16x96 .bf16) (ix5 b n j g d) = I.dk b n j g d := by
  after_reads_at
  simp only [h.kb, h.vb, h.dof, h.dscale, h.o, h.lse, h.idx, h.v8, h.v11, h.v13, h.v20, h.v22, id_eq, zero_word]
  rfl

set_option maxHeartbeats 4000000 in
/-- The first result is the gradient of the queries. -/
theorem v83 (h : Ready V I) (b : Fin 12) (t : Fin 128) (c : Fin 6144) :
    (StableHlo.after opsD V (Proc.devRef .tc main_v83) : FVec Ideal S12x128x6144 .bf16) (ix3 b t c)
      = I.dq b t ⟨c.val / 384, by omega⟩ ⟨c.val / 96 % 4, by omega⟩ ⟨c.val % 96, by omega⟩ := by
  after_reads_at
  simp only [h.kb, h.vb, h.dof, h.dscale, h.o, h.lse, h.idx, h.v8, h.v11, h.v13, h.v20, h.v22, id_eq, zero_word]
  rfl

end Cert.ReferenceIdeal.Tail
end
-- ==== Proof.RefRun.lean ====
/-
  The reference's run, read: its first region hands the converted arguments on, and the operations after it return the three
  gradients.
-/
module

public import proofs.«01_k».proof.Proof.RefTail
public import proofs.«01_k».proof.Proof.Gen.ReferenceIdeal.Frame
public import Idealize.ShloMosaic.Lib.Pipeline.Value

@[expose] public section

set_option maxRecDepth 16384

noncomputable section

namespace Cert.ReferenceIdeal.Run

open Idealize.ShloMosaic Idealize.ShloMosaic.TcCoe Idealize.SL.Sem
open Idealize.ShloMosaic.Pipeline (Dat)
open Cert.ReferenceIdeal.Gen Cert.Model
open scoped BigOperators

variable (m : (ℓ : Loc nD τ sig) → Buf (Elt Ideal) ℓ) (ρ : Dev nD → PrngReg) (c : Dev nD)

/-! ## The region: one point, whole arrays -/

theorem emb_r0 (i : S12x4x256x16x96.Idx) : r0_0.emb i = i := by
  funext a
  fin_cases a <;> exact Fin.ext (by show 0 + 1 * _ = _; omega)

theorem emb_r1 (i : S12x128x6144.Idx) : r0_1.emb i = i := by
  funext a
  fin_cases a <;> exact Fin.ext (by show 0 + 1 * _ = _; omega)

theorem out3 (x0 x1 : Vec Ideal S12x4x256x16x96 .fp8e4m3) (x2 : Vec Ideal S12x128x6144 .fp8e5m2) (i : S12x4x256x16x96.Idx) :
    @Eq EReal (out0_3 x0 x1 x2 i) (x0 i) := by
  have h := View.canon_cons_emb (Val := Elt Ideal) (e := .bf16) r0_0 (k0_pay1 (View.ld x0 r0_0)) [] i
  rw [emb_r0] at h
  refine Eq.trans h ?_
  show @Eq EReal (x0 (r0_0.emb i)) (x0 i)
  rw [emb_r0]

theorem out4 (x0 x1 : Vec Ideal S12x4x256x16x96 .fp8e4m3) (x2 : Vec Ideal S12x128x6144 .fp8e5m2) (i : S12x4x256x16x96.Idx) :
    @Eq EReal (out0_4 x0 x1 x2 i) (x1 i) := by
  have h := View.canon_cons_emb (Val := Elt Ideal) (e := .bf16) r0_0 (k0_pay2 (View.ld x1 r0_0)) [] i
  rw [emb_r0] at h
  refine Eq.trans h ?_
  show @Eq EReal (x1 (r0_0.emb i)) (x1 i)
  rw [emb_r0]

theorem out5 (x0 x1 : Vec Ideal S12x4x256x16x96 .fp8e4m3) (x2 : Vec Ideal S12x128x6144 .fp8e5m2) (i : S12x128x6144.Idx) :
    @Eq EReal (out0_5 x0 x1 x2 i) (x2 i) := by
  have h := View.canon_cons_emb (Val := Elt Ideal) (e := .bf16) r0_1 (k0_pay3 (View.ld x2 r0_1)) [] i
  rw [emb_r1] at h
  refine Eq.trans h ?_
  show @Eq EReal (x2 (r0_1.emb i)) (x2 i)
  rw [emb_r1]

theorem out6 (x0 x1 : Vec Ideal S12x4x256x16x96 .fp8e4m3) (x2 : Vec Ideal S12x128x6144 .fp8e5m2) (i : S12x128x6144.Idx) :
    @Eq EReal (out0_6 x0 x1 x2 i) (x2 i) := by
  have h := View.canon_cons_emb (Val := Elt Ideal) (e := .f32) r0_1 (k0_pay4 (View.ld x2 r0_1)) [] i
  rw [emb_r1] at h
  refine Eq.trans h ?_
  show @Eq EReal (x2 (r0_1.emb i)) (x2 i)
  rw [emb_r1]

/-- The region's one point stages each array whole. -/
theorem emb_w0 (t : Fin cfg0.N) (i : S12x4x256x16x96.Idx) : (win0_0.blk t).view.emb i = i := by
  funext a
  fin_cases a <;> exact Fin.ext (by show 0 * _ + 1 * _ = _; omega)

theorem emb_w1 (t : Fin cfg0.N) (i : S12x4x256x16x96.Idx) : (win0_1.blk t).view.emb i = i := by
  funext a
  fin_cases a <;> exact Fin.ext (by show 0 * _ + 1 * _ = _; omega)

theorem emb_w2 (t : Fin cfg0.N) (i : S12x128x6144.Idx) : (win0_2.blk t).view.emb i = i := by
  funext a
  fin_cases a <;> exact Fin.ext (by show 0 * _ + 1 * _ = _; omega)

theorem emb_w3 (t : Fin cfg0.N) (i : S12x4x256x16x96.Idx) : (win0_3.blk t).view.emb i = i := by
  funext a
  fin_cases a <;> exact Fin.ext (by show 0 * _ + 1 * _ = _; omega)

theorem emb_w4 (t : Fin cfg0.N) (i : S12x4x256x16x96.Idx) : (win0_4.blk t).view.emb i = i := by
  funext a
  fin_cases a <;> exact Fin.ext (by show 0 * _ + 1 * _ = _; omega)

theorem emb_w5 (t : Fin cfg0.N) (i : S12x128x6144.Idx) : (win0_5.blk t).view.emb i = i := by
  funext a
  fin_cases a <;> exact Fin.ext (by show 0 * _ + 1 * _ = _; omega)

theorem emb_w6 (t : Fin cfg0.N) (i : S12x128x6144.Idx) : (win0_6.blk t).view.emb i = i := by
  funext a
  fin_cases a <;> exact Fin.ext (by show 0 * _ + 1 * _ = _; omega)

theorem final3 : (dats m 0 c).arrAt 3 cfg0.N = (m ((c.tc : Thread nD τ).loc main_arg1) : S12x4x256x16x96.Idx → EReal) := by
  refine (dats m 0 c).arrAt_eq_of_cover 3 _ (fun t _ => ?_) fun i => ⟨t0_0, flush0_3 _, ?_⟩
  · show (cfg0.win 3).cut (grid0.coords t) ((dats m 0 c).after 3 t) = _
    rw [after0_3]
    refine funext fun (i : S12x4x256x16x96.Idx) => (out3 _ _ _ i).trans ?_
    show @Eq EReal (m ((c.tc : Thread nD τ).loc main_arg1) ((win0_0.blk t).view.emb i))
      (m ((c.tc : Thread nD τ).loc main_arg1) ((win0_3.blk t).view.emb i))
    rw [emb_w0, emb_w3]
  · have h := View.emb_mem_set (win0_3.blk t0_0).view i
    rw [show (win0_3.blk t0_0).view.emb i = i from emb_w3 t0_0 i] at h
    exact h

theorem final4 : (dats m 0 c).arrAt 4 cfg0.N = (m ((c.tc : Thread nD τ).loc main_arg3) : S12x4x256x16x96.Idx → EReal) := by
  refine (dats m 0 c).arrAt_eq_of_cover 4 _ (fun t _ => ?_) fun i => ⟨t0_0, flush0_4 _, ?_⟩
  · show (cfg0.win 4).cut (grid0.coords t) ((dats m 0 c).after 4 t) = _
    rw [after0_4]
    refine funext fun (i : S12x4x256x16x96.Idx) => (out4 _ _ _ i).trans ?_
    show @Eq EReal (m ((c.tc : Thread nD τ).loc main_arg3) ((win0_1.blk t).view.emb i))
      (m ((c.tc : Thread nD τ).loc main_arg3) ((win0_4.blk t).view.emb i))
    rw [emb_w1, emb_w4]
  · have h := View.emb_mem_set (win0_4.blk t0_0).view i
    rw [show (win0_4.blk t0_0).view.emb i = i from emb_w4 t0_0 i] at h
    exact h

theorem final5 : (dats m 0 c).arrAt 5 cfg0.N = (m ((c.tc : Thread nD τ).loc main_arg5) : S12x128x6144.Idx → EReal) := by
  refine (dats m 0 c).arrAt_eq_of_cover 5 _ (fun t _ => ?_) fun i => ⟨t0_0, flush0_5 _, ?_⟩
  · show (cfg0.win 5).cut (grid0.coords t) ((dats m 0 c).after 5 t) = _
    rw [after0_5]
    refine funext fun (i : S12x128x6144.Idx) => (out5 _ _ _ i).trans ?_
    show @Eq EReal (m ((c.tc : Thread nD τ).loc main_arg5) ((win0_2.blk t).view.emb i))
      (m ((c.tc : Thread nD τ).loc main_arg5) ((win0_5.blk t).view.emb i))
    rw [emb_w2, emb_w5]
  · have h := View.emb_mem_set (win0_5.blk t0_0).view i
    rw [show (win0_5.blk t0_0).view.emb i = i from emb_w5 t0_0 i] at h
    exact h

theorem final6 : (dats m 0 c).arrAt 6 cfg0.N = (m ((c.tc : Thread nD τ).loc main_arg5) : S12x128x6144.Idx → EReal) := by
  refine (dats m 0 c).arrAt_eq_of_cover 6 _ (fun t _ => ?_) fun i => ⟨t0_0, flush0_6 _, ?_⟩
  · show (cfg0.win 6).cut (grid0.coords t) ((dats m 0 c).after 6 t) = _
    rw [after0_6]
    refine funext fun (i : S12x128x6144.Idx) => (out6 _ _ _ i).trans ?_
    show @Eq EReal (m ((c.tc : Thread nD τ).loc main_arg5) ((win0_2.blk t).view.emb i))
      (m ((c.tc : Thread nD τ).loc main_arg5) ((win0_6.blk t).view.emb i))
    rw [emb_w2, emb_w6]
  · have h := View.emb_mem_set (win0_6.blk t0_0).view i
    rw [show (win0_6.blk t0_0).view.emb i = i from emb_w6 t0_0 i] at h
    exact h

/-- The contents after the region. -/
abbrev V1 : Valuation τ sig (Elt Ideal) := Pipeline.withArrays spec0 c (V0 m c) fun w => (dats m 0 c).arrAt w cfg0.N

/-- The pass's inputs on device `c`. -/
abbrev I : Inputs := Tail.inputs (V1 m c)

theorem v0_0 : V1 m c (Proc.devRef .tc main_v0_0) = (m ((c.tc : Thread nD τ).loc main_arg1) : S12x4x256x16x96.Idx → EReal) :=
  (Pipeline.withArrays_arr spec0 winFacts0.arr_inj c (V0 m c) (fun w => (dats m 0 c).arrAt w cfg0.N) 3).trans (final3 m c)
theorem v0_1 : V1 m c (Proc.devRef .tc main_v0_1) = (m ((c.tc : Thread nD τ).loc main_arg3) : S12x4x256x16x96.Idx → EReal) :=
  (Pipeline.withArrays_arr spec0 winFacts0.arr_inj c (V0 m c) (fun w => (dats m 0 c).arrAt w cfg0.N) 4).trans (final4 m c)
theorem v0_2 : V1 m c (Proc.devRef .tc main_v0_2) = (m ((c.tc : Thread nD τ).loc main_arg5) : S12x128x6144.Idx → EReal) :=
  (Pipeline.withArrays_arr spec0 winFacts0.arr_inj c (V0 m c) (fun w => (dats m 0 c).arrAt w cfg0.N) 5).trans (final5 m c)
theorem v0_3 : V1 m c (Proc.devRef .tc main_v0_3) = (m ((c.tc : Thread nD τ).loc main_arg5) : S12x128x6144.Idx → EReal) :=
  (Pipeline.withArrays_arr spec0 winFacts0.arr_inj c (V0 m c) (fun w => (dats m 0 c).arrAt w cfg0.N) 6).trans (final6 m c)

/-- A buffer that is none of the region's arrays is as it was. -/
theorem rest (b : Ref sig .tc) (h : ∀ w, Pipeline.arrRef spec0 w ≠ b) :
    V1 m c (Proc.devRef .tc b) = m ((c.tc : Thread nD τ).loc b) :=
  Pipeline.withArrays_of_ne spec0 c (V0 m c) _ b h

theorem ready : Tail.Ready (Tail.WC (V1 m c)) (I m c) := Tail.ready _ ((v0_2 m c).trans (v0_3 m c).symm)

/-! ## The results -/

abbrev lines : List (List (HloOp τ sig (Elt Ideal))) := [hostOps1, hostOps1_1, hostOps1_2, hostOps1_3, hostOps1_4, hostOps1_5,
  hostOps1_6, hostOps1_7, hostOps1_8, hostOps1_9, hostOps1_10, hostOps1_11, hostOps1_12, hostOps1_13, hostOps1_14]

/-- The operations after the region, as the stretches read above. -/
theorem stages (W : Valuation τ sig (Elt Ideal)) : StableHlo.after (List.flatten lines) W = StableHlo.after Tail.opsD (Tail.WC W) := by
  simp only [List.flatten_cons, List.flatten_nil, List.append_nil, Tail.WC, Tail.WB, Tail.WA, Tail.opsA, Tail.opsD, StableHlo.after_append]

theorem tail (b : Ref sig .tc) : Pipeline.afterTail₀ cfgs (dats m) 0 (V0 m) lines c b
    = StableHlo.after Tail.opsD (Tail.WC (V1 m c)) (Proc.devRef .tc b) :=
  congrFun (stages (V1 m c)) _

theorem ix_keys (i : S12x4x256x16x96.Idx) :
    ∃ (b : Fin 12) (n : Fin 4) (j : Fin 256) (g : Fin 16) (d : Fin 96), i = ix5 b n j g d :=
  ⟨i 0, i 1, i 2, i 3, i 4, by funext a; fin_cases a <;> rfl⟩

theorem end83 : Pipeline.afterTail₀ cfgs (dats m) 0 (V0 m) lines c main_v83 = (I m c).dqArr := by
  rw [tail]
  refine funext fun (i : S12x128x6144.Idx) => ?_
  obtain ⟨b, t, k, rfl⟩ : ∃ (b : Fin 12) (t : Fin 128) (k : Fin 6144), i = ix3 b t k :=
    ⟨i 0, i 1, i 2, by funext a; fin_cases a <;> rfl⟩
  exact Tail.v83 (ready m c) b t k

theorem end70 : Pipeline.afterTail₀ cfgs (dats m) 0 (V0 m) lines c main_v70 = (I m c).dkArr := by
  rw [tail]
  refine funext fun (i : S12x4x256x16x96.Idx) => ?_
  obtain ⟨b, n, j, g, d, rfl⟩ := ix_keys i
  exact Tail.v70 (ready m c) b n j g d

theorem end64 : Pipeline.afterTail₀ cfgs (dats m) 0 (V0 m) lines c main_v64 = (I m c).dvArr := by
  rw [tail]
  refine funext fun (i : S12x4x256x16x96.Idx) => ?_
  obtain ⟨b, n, j, g, d, rfl⟩ := ix_keys i
  exact Tail.v64 (ready m c) b n j g d

/-- The reference returns the three gradients of its inputs. -/
theorem results : θ_run defs (onTc (τ := τ) (main (F := Ideal))) ⟨m, fun _ => 0, ρ⟩ (fun r => ∀ c : Dev nD,
    r.2.mem ((c.tc : Thread nD τ).loc main_v83) = (I m c).dqArr
    ∧ r.2.mem ((c.tc : Thread nD τ).loc main_v70) = (I m c).dkArr
    ∧ r.2.mem ((c.tc : Thread nD τ).loc main_v64) = (I m c).dvArr) :=
  (θ_run defs _ _).mono (fun _ h c => ⟨
      ((h c).2 main_v83 (Pipeline.mem_restRefs_of main_v83 (by decide) (by decide))).trans (end83 m c),
      ((h c).2 main_v70 (Pipeline.mem_restRefs_of main_v70 (by decide) (by decide))).trans (end70 m c),
      ((h c).2 main_v64 (Pipeline.mem_restRefs_of main_v64 (by decide) (by decide))).trans (end64 m c)⟩)
    (run_main m ρ)

end Cert.ReferenceIdeal.Run
end
-- ==== Proof.Scales.lean ====
/-
  Both programs take each query's key and value scale by the same operations: from equal arguments the two takes are equal.
-/
module

public import proofs.«01_k».proof.Proof.KernelHost
public import proofs.«01_k».proof.Proof.RefTail

@[expose] public section

set_option maxRecDepth 16384

noncomputable section

namespace Cert.Scales

open Idealize.ShloMosaic Idealize.ShloMosaic.TcCoe

variable (WK : Valuation KernelIdeal.τ KernelIdeal.sig (Elt Ideal)) (WR : Valuation ReferenceIdeal.τ ReferenceIdeal.sig (Elt Ideal))

theorem ks (h2 : (WK (Proc.devRef .tc KernelIdeal.main_arg2) : FVec Ideal KernelIdeal.S12x4x16 .f32)
      = (WR (Proc.devRef .tc ReferenceIdeal.main_arg2) : FVec Ideal KernelIdeal.S12x4x16 .f32))
    (h9 : (WK (Proc.devRef .tc KernelIdeal.main_arg9) : IVec KernelIdeal.S12x128 32)
      = (WR (Proc.devRef .tc ReferenceIdeal.main_arg9) : IVec KernelIdeal.S12x128 32)) :
    (KernelIdeal.Host.WB WK (Proc.devRef .tc KernelIdeal.main_v9) : FVec Ideal KernelIdeal.S12x128x16 .f32)
      = (ReferenceIdeal.Tail.WB WR (Proc.devRef .tc ReferenceIdeal.main_v18) : FVec Ideal KernelIdeal.S12x128x16 .f32) := by
  after_reads_simp
  simp only [h2, h9]
  rfl

theorem vs (h4 : (WK (Proc.devRef .tc KernelIdeal.main_arg4) : FVec Ideal KernelIdeal.S12x4x16 .f32)
      = (WR (Proc.devRef .tc ReferenceIdeal.main_arg4) : FVec Ideal KernelIdeal.S12x4x16 .f32))
    (h9 : (WK (Proc.devRef .tc KernelIdeal.main_arg9) : IVec KernelIdeal.S12x128 32)
      = (WR (Proc.devRef .tc ReferenceIdeal.main_arg9) : IVec KernelIdeal.S12x128 32)) :
    (KernelIdeal.Host.WC WK (Proc.devRef .tc KernelIdeal.main_v11) : FVec Ideal KernelIdeal.S12x128x16 .f32)
      = (ReferenceIdeal.Tail.WC WR (Proc.devRef .tc ReferenceIdeal.main_v22) : FVec Ideal KernelIdeal.S12x128x16 .f32) := by
  after_reads_simp
  simp only [h4, h9]
  rfl

end Cert.Scales
end
-- ==== Proof.Agree.lean ====
/-
  The two programs, from memories that agree on the arguments, return equal gradients.
-/
module

public import proofs.«01_k».proof.Proof.KernelRun
public import proofs.«01_k».proof.Proof.RefRun
public import proofs.«01_k».proof.Proof.Scales
public import proofs.«01_k».proof.Defs

@[expose] public section

set_option maxRecDepth 16384

noncomputable section

namespace Cert.Agree

open Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- Equal arguments are equal inputs of the pass. -/
theorem inputs
    (h0 : m' ((c.tc : Thread ReferenceIdeal.nD ReferenceIdeal.τ).loc ReferenceIdeal.main_arg0)
      = m ((c.tc : Thread KernelIdeal.nD KernelIdeal.τ).loc KernelIdeal.main_arg0))
    (h1 : m' ((c.tc : Thread ReferenceIdeal.nD ReferenceIdeal.τ).loc ReferenceIdeal.main_arg1)
      = m ((c.tc : Thread KernelIdeal.nD KernelIdeal.τ).loc KernelIdeal.main_arg1))
    (h2 : m' ((c.tc : Thread ReferenceIdeal.nD ReferenceIdeal.τ).loc ReferenceIdeal.main_arg2)
      = m ((c.tc : Thread KernelIdeal.nD KernelIdeal.τ).loc KernelIdeal.main_arg2))
    (h3 : m' ((c.tc : Thread ReferenceIdeal.nD ReferenceIdeal.τ).loc ReferenceIdeal.main_arg3)
      = m ((c.tc : Thread KernelIdeal.nD KernelIdeal.τ).loc KernelIdeal.main_arg3))
    (h4 : m' ((c.tc : Thread ReferenceIdeal.nD ReferenceIdeal.τ).loc ReferenceIdeal.main_arg4)
      = m ((c.tc : Thread KernelIdeal.nD KernelIdeal.τ).loc KernelIdeal.main_arg4))
    (h5 : m' ((c.tc : Thread ReferenceIdeal.nD ReferenceIdeal.τ).loc ReferenceIdeal.main_arg5)
      = m ((c.tc : Thread KernelIdeal.nD KernelIdeal.τ).loc KernelIdeal.main_arg5))
    (h6 : m' ((c.tc : Thread ReferenceIdeal.nD ReferenceIdeal.τ).loc ReferenceIdeal.main_arg6)
      = m ((c.tc : Thread KernelIdeal.nD KernelIdeal.τ).loc KernelIdeal.main_arg6))
    (h7 : m' ((c.tc : Thread ReferenceIdeal.nD ReferenceIdeal.τ).loc ReferenceIdeal.main_arg7)
      = m ((c.tc : Thread KernelIdeal.nD KernelIdeal.τ).loc KernelIdeal.main_arg7))
    (h8 : m' ((c.tc : Thread ReferenceIdeal.nD ReferenceIdeal.τ).loc ReferenceIdeal.main_arg8)
      = m ((c.tc : Thread KernelIdeal.nD KernelIdeal.τ).loc KernelIdeal.main_arg8))
    (h9 : m' ((c.tc : Thread ReferenceIdeal.nD ReferenceIdeal.τ).loc ReferenceIdeal.main_arg9)
      = m ((c.tc : Thread KernelIdeal.nD KernelIdeal.τ).loc KernelIdeal.main_arg9)) :
    ReferenceIdeal.Run.I m' c = KernelIdeal.Run.I m c := by
  have r2 := (ReferenceIdeal.Run.rest m' c ReferenceIdeal.main_arg2 (by decide)).trans h2
  have r4 := (ReferenceIdeal.Run.rest m' c ReferenceIdeal.main_arg4 (by decide)).trans h4
  have r9 := (ReferenceIdeal.Run.rest m' c ReferenceIdeal.main_arg9 (by decide)).trans h9
  show ReferenceIdeal.Tail.inputs _ = KernelIdeal.Host.inputs _
  unfold ReferenceIdeal.Tail.inputs KernelIdeal.Host.inputs
  rw [Model.Inputs.mk.injEq]
  exact ⟨(ReferenceIdeal.Run.rest m' c ReferenceIdeal.main_arg0 (by decide)).trans h0,
    (ReferenceIdeal.Run.v0_0 m' c).trans h1, (ReferenceIdeal.Run.v0_1 m' c).trans h3, (ReferenceIdeal.Run.v0_3 m' c).trans h5,
    (ReferenceIdeal.Run.rest m' c ReferenceIdeal.main_arg6 (by decide)).trans h6,
    (ReferenceIdeal.Run.rest m' c ReferenceIdeal.main_arg7 (by decide)).trans h7,
    (ReferenceIdeal.Run.rest m' c ReferenceIdeal.main_arg8 (by decide)).trans h8, r9,
    (Scales.ks _ _ r2.symm r9.symm).symm, (Scales.vs _ _ r4.symm r9.symm).symm⟩

/-- The value claim. -/
theorem algebraic : Cert.algebraic_KernelIdeal_ReferenceIdeal := by
  intro m g m' g' _ h
  refine ⟨fun c => (KernelIdeal.Run.I m c).dqArr, fun c => (KernelIdeal.Run.I m c).dkArr, fun c => (KernelIdeal.Run.I m c).dvArr, ?_, ?_⟩
  · exact (θ_run KernelIdeal.defs _ _).mono (fun _ k c => ⟨(k.1 c).1, (k.1 c).2.1, (k.1 c).2.2, k.2 c⟩)
      (θ_run_and (KernelIdeal.Run.results m g) (KernelIdeal.Gen.unchanged m g))
  · have e (c : Dev KernelIdeal.nD) : ReferenceIdeal.Run.I m' c = KernelIdeal.Run.I m c := by
      obtain ⟨h0, h1, h2, h3, h4, h5, h6, h7, h8, h9⟩ := h c
      exact inputs m m' c h0 h1 h2 h3 h4 h5 h6 h7 h8 h9
    exact (θ_run ReferenceIdeal.defs _ _).mono (fun _ k c => ⟨(k.1 c).1.trans (congrArg Model.Inputs.dqArr (e c)),
        (k.1 c).2.1.trans (congrArg Model.Inputs.dkArr (e c)), (k.1 c).2.2.trans (congrArg Model.Inputs.dvArr (e c)), k.2 c⟩)
      (θ_run_and (ReferenceIdeal.Run.results m' g') (ReferenceIdeal.Gen.unchanged m' g'))

end Cert.Agree
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  exact ⟨fun m ρ _ => Cert.Kernel.Gen.frame m ρ, fun m ρ _ => Cert.KernelIdeal.Gen.frame m ρ,
    fun m ρ _ => Cert.ReferenceIdeal.Gen.frame m ρ, trivial, Cert.Agree.algebraic⟩⟩

end Cert.Proof

end
